-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![32768]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![2048, 1024]⟩ ⟨2, ![2048, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024 : Shape := ⟨1, ![1024]⟩
abbrev S1x1024 : Shape := ⟨2, ![1, 1024]⟩
abbrev S4x512x1024 : Shape := ⟨3, ![4, 512, 1024]⟩
abbrev S4x32x4x128 : Shape := ⟨4, ![4, 32, 4, 128]⟩
abbrev S4 : Shape := ⟨1, ![4]⟩
abbrev S4x32 : Shape := ⟨2, ![4, 32]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S512x4 : Shape := ⟨2, ![512, 4]⟩
abbrev S512x128 : Shape := ⟨2, ![512, 128]⟩
abbrev S128x1024 : Shape := ⟨2, ![128, 1024]⟩
abbrev S1024x1 : Shape := ⟨2, ![1024, 1]⟩
abbrev S512x1 : Shape := ⟨2, ![512, 1]⟩
abbrev S4x128 : Shape := ⟨2, ![4, 128]⟩
abbrev S1x1x4x128 : Shape := ⟨4, ![1, 1, 4, 128]⟩
abbrev S1x1 : Shape := ⟨2, ![1, 1]⟩
abbrev S1x32x4x128 : Shape := ⟨4, ![1, 32, 4, 128]⟩
abbrev S32x4x128 : Shape := ⟨3, ![32, 4, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .f32⟩
  | .local _ .vmem, ⟨0, _⟩ => ⟨S1x1024, .f32⟩
  | .local _ .vmem, ⟨1, _⟩ => ⟨S4x512x1024, .f32⟩
  | .local _ .vmem, ⟨2, _⟩ => ⟨S4x512x1024, .f32⟩
  | .local _ .vmem, ⟨3, _⟩ => ⟨S4x32x4x128, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 265 → Bool
  | ⟨i, _⟩ => dmaSemScopedAt i

abbrev sig : RefSig :=
  (ofTc nBuf bufTy 1 265 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg10 : BitVec 32 := Scf.iv c1_i32_0 c1_i32_1 k0_t1
  let v256 : BitVec 32 := Scalar.addi v2 arg10
  let c32_i32_240 : BitVec 32 := 32#32
  let v257 : BitVec 32 := Scalar.remsi v256 c32_i32_240
  let c1_i32_242 : BitVec 32 := 1#32
  let v258 : BitVec 32 := Scalar.muli v257 c1_i32_242
  let v259 : BitVec 32 := Scalar.addi c0_i32_243 v258
  v259.toNat
def k0_off1 (d0 : Dev nD) : Fin 4 → Nat :=
  let c0_44 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v90 : Index := Scalar.indexCast v2
  let c0_45 : Index := 0#32
  let c0_46 : Index := 0#32
  ![0, v90.toNat, 0, 0]
@[reducible] def k0_t2_loop : Scf.Loop 32 :=
  let c1_i32_48 : BitVec 32 := 1#32
  let c31_i32_49 : BitVec 32 := 31#32
  let v94 : BitVec 32 := Scalar.addi c1_i32_48 c31_i32_49
  let c1_i32_50 : BitVec 32 := 1#32
  ⟨c1_i32_48, v94, c1_i32_50⟩
def k0_off2 (k0_t2 : Fin k0_t2_loop.trips) : Fin 2 → Nat :=
  let c0_i32_244 : BitVec 32 := 0#32
  let c1_i32_48 : BitVec 32 := 1#32
  let c1_i32_50 : BitVec 32 := 1#32
  let arg10 : BitVec 32 := Scf.iv c1_i32_48 c1_i32_50 k0_t2
  ![0, arg10.toNat]
def k0_off3 (d0 : Dev nD) : Fin 2 → Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off4 (d0 : Dev nD) : Fin 4 → Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![0, v2.toNat, 0, 0]
def k0_dev2 (d0 : Dev nD) (k0_t2 : Fin k0_t2_loop.trips) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_48 : BitVec 32 := 1#32
  let c1_i32_50 : BitVec 32 := 1#32
  let arg10 : BitVec 32 := Scf.iv c1_i32_48 c1_i32_50 k0_t2
  let v256 : BitVec 32 := Scalar.addi v2 arg10
  let c32_i32_240 : BitVec 32 := 32#32
  let v257 : BitVec 32 := Scalar.remsi v256 c32_i32_240
  let c1_i32_245 : BitVec 32 := 1#32
  let v258 : BitVec 32 := Scalar.muli v257 c1_i32_245
  let v259 : BitVec 32 := Scalar.addi c0_i32_246 v258
  v259.toNat
def k0_off5 (d0 : Dev nD) : Fin 4 → Nat :=
  let c1_61 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v105 : Index := Scalar.indexCast v2
  let c0_62 : Index := 0#32
  let c0_63 : Index := 0#32
  ![1, v105.toNat, 0, 0]
@[reducible] def k0_t3_loop : Scf.Loop 32 :=
  let c1_i32_64 : BitVec 32 := 1#32
  let c31_i32_65 : BitVec 32 := 31#32
  let v109 : BitVec 32 := Scalar.addi c1_i32_64 c31_i32_65
  let c1_i32_66 : BitVec 32 := 1#32
  ⟨c1_i32_64, v109, c1_i32_66⟩
def k0_off6 (k0_t3 : Fin k0_t3_loop.trips) : Fin 2 → Nat :=
  let c1_i32_244 : BitVec 32 := 1#32
  let c1_i32_64 : BitVec 32 := 1#32
  let c1_i32_66 : BitVec 32 := 1#32
  let arg10 : BitVec 32 := Scf.iv c1_i32_64 c1_i32_66 k0_t3
  ![1, arg10.toNat]
def k0_off7 (d0 : Dev nD) : Fin 2 → Nat :=
  let c1_i32_243 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off8 (d0 : Dev nD) : Fin 4 → Nat :=
  let c1_i32_242 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![1, v2.toNat, 0, 0]
def k0_dev3 (d0 : Dev nD) (k0_t3 : Fin k0_t3_loop.trips) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_64 : BitVec 32 := 1#32
  let c1_i32_66 : BitVec 32 := 1#32
  let arg10 : BitVec 32 := Scf.iv c1_i32_64 c1_i32_66 k0_t3
  let v256 : BitVec 32 := Scalar.addi v2 arg10
  let c32_i32_240 : BitVec 32 := 32#32
  let v257 : BitVec 32 := Scalar.remsi v256 c32_i32_240
  let c1_i32_245 : BitVec 32 := 1#32
  let v258 : BitVec 32 := Scalar.muli v257 c1_i32_245
  let v259 : BitVec 32 := Scalar.addi c0_i32_246 v258
  v259.toNat
def k0_off9 (d0 : Dev nD) : Fin 4 → Nat :=
  let c2_77 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v120 : Index := Scalar.indexCast v2
  let c0_78 : Index := 0#32
  let c0_79 : Index := 0#32
  ![2, v120.toNat, 0, 0]
@[reducible] def k0_t4_loop : Scf.Loop 32 :=
  let c1_i32_80 : BitVec 32 := 1#32
  let c31_i32_81 : BitVec 32 := 31#32
  let v124 : BitVec 32 := Scalar.addi c1_i32_80 c31_i32_81
  let c1_i32_82 : BitVec 32 := 1#32
  ⟨c1_i32_80, v124, c1_i32_82⟩
def k0_off10 (k0_t4 : Fin k0_t4_loop.trips) : Fin 2 → Nat :=
  let c2_i32_244 : BitVec 32 := 2#32
  let c1_i32_80 : BitVec 32 := 1#32
  let c1_i32_82 : BitVec 32 := 1#32
  let arg10 : BitVec 32 := Scf.iv c1_i32_80 c1_i32_82 k0_t4
  ![2, arg10.toNat]
def k0_off11 (d0 : Dev nD) : Fin 2 → Nat :=
  let c2_i32_243 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off12 (d0 : Dev nD) : Fin 4 → Nat :=
  let c2_i32_242 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![2, v2.toNat, 0, 0]
def k0_dev4 (d0 : Dev nD) (k0_t4 : Fin k0_t4_loop.trips) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_80 : BitVec 32 := 1#32
  let c1_i32_82 : BitVec 32 := 1#32
  let arg10 : BitVec 32 := Scf.iv c1_i32_80 c1_i32_82 k0_t4
  let v256 : BitVec 32 := Scalar.addi v2 arg10
  let c32_i32_240 : BitVec 32 := 32#32
  let v257 : BitVec 32 := Scalar.remsi v256 c32_i32_240
  let c1_i32_245 : BitVec 32 := 1#32
  let v258 : BitVec 32 := Scalar.muli v257 c1_i32_245
  let v259 : BitVec 32 := Scalar.addi c0_i32_246 v258
  v259.toNat
def k0_off13 (d0 : Dev nD) : Fin 4 → Nat :=
  let c3_93 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v135 : Index := Scalar.indexCast v2
  let c0_94 : Index := 0#32
  let c0_95 : Index := 0#32
  ![3, v135.toNat, 0, 0]
@[reducible] def k0_t5_loop : Scf.Loop 32 :=
  let c1_i32_96 : BitVec 32 := 1#32
  let c31_i32_97 : BitVec 32 := 31#32
  let v139 : BitVec 32 := Scalar.addi c1_i32_96 c31_i32_97
  let c1_i32_98 : BitVec 32 := 1#32
  ⟨c1_i32_96, v139, c1_i32_98⟩
def k0_off14 (k0_t5 : Fin k0_t5_loop.trips) : Fin 2 → Nat :=
  let c3_i32_244 : BitVec 32 := 3#32
  let c1_i32_96 : BitVec 32 := 1#32
  let c1_i32_98 : BitVec 32 := 1#32
  let arg10 : BitVec 32 := Scf.iv c1_i32_96 c1_i32_98 k0_t5
  ![3, arg10.toNat]
def k0_off15 (d0 : Dev nD) : Fin 2 → Nat :=
  let c3_i32_243 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![3, v2.toNat]
def k0_off16 (d0 : Dev nD) : Fin 4 → Nat :=
  let c3_i32_242 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![3, v2.toNat, 0, 0]
def k0_dev5 (d0 : Dev nD) (k0_t5 : Fin k0_t5_loop.trips) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let c1_i32_98 : BitVec 32 := 1#32
  let arg10 : BitVec 32 := Scf.iv c1_i32_96 c1_i32_98 k0_t5
  let v256 : BitVec 32 := Scalar.addi v2 arg10
  let c32_i32_240 : BitVec 32 := 32#32
  let v257 : BitVec 32 := Scalar.remsi v256 c32_i32_240
  let c1_i32_245 : BitVec 32 := 1#32
  let v258 : BitVec 32 := Scalar.muli v257 c1_i32_245
  let v259 : BitVec 32 := Scalar.addi c0_i32_246 v258
  v259.toNat
@[reducible] def k0_t6_loop : Scf.Loop 32 :=
  let c1_i32_100 : BitVec 32 := 1#32
  let c31_i32_101 : BitVec 32 := 31#32
  let v140 : BitVec 32 := Scalar.addi c1_i32_100 c31_i32_101
  let c1_i32_102 : BitVec 32 := 1#32
  ⟨c1_i32_100, v140, c1_i32_102⟩
def k0_off17 (d0 : Dev nD) (k0_t6 : Fin k0_t6_loop.trips) : Fin 2 → Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_100 : BitVec 32 := 1#32
  let c1_i32_102 : BitVec 32 := 1#32
  let arg10 : BitVec 32 := Scf.iv c1_i32_100 c1_i32_102 k0_t6
  let v258 : BitVec 32 := Scalar.addi v2 arg10
  let c32_i32_241 : BitVec 32 := 32#32
  let v259 : BitVec 32 := Scalar.remsi v258 c32_i32_241
  ![0, v259.toNat]
def k0_off18 (d0 : Dev nD) (k0_t6 : Fin k0_t6_loop.trips) : Fin 4 → Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_100 : BitVec 32 := 1#32
  let c1_i32_102 : BitVec 32 := 1#32
  let arg10 : BitVec 32 := Scf.iv c1_i32_100 c1_i32_102 k0_t6
  let v256 : BitVec 32 := Scalar.addi v2 arg10
  let c32_i32_240 : BitVec 32 := 32#32
  let v257 : BitVec 32 := Scalar.remsi v256 c32_i32_240
  let c0_i32_250 : BitVec 32 := 0#32
  let c0_i32_251 : BitVec 32 := 0#32
  ![0, v257.toNat, 0, 0]
@[reducible] def k0_t7_loop : Scf.Loop 32 :=
  let c1_i32_125 : BitVec 32 := 1#32
  let c31_i32_126 : BitVec 32 := 31#32
  let v163 : BitVec 32 := Scalar.addi c1_i32_125 c31_i32_126
  let c1_i32_127 : BitVec 32 := 1#32
  ⟨c1_i32_125, v163, c1_i32_127⟩
def k0_off19 (d0 : Dev nD) (k0_t7 : Fin k0_t7_loop.trips) : Fin 2 → Nat :=
  let c1_i32_245 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let c1_i32_127 : BitVec 32 := 1#32
  let arg10 : BitVec 32 := Scf.iv c1_i32_125 c1_i32_127 k0_t7
  let v258 : BitVec 32 := Scalar.addi v2 arg10
  let c32_i32_241 : BitVec 32 := 32#32
  let v259 : BitVec 32 := Scalar.remsi v258 c32_i32_241
  ![1, v259.toNat]
def k0_off20 (d0 : Dev nD) (k0_t7 : Fin k0_t7_loop.trips) : Fin 4 → Nat :=
  let c1_i32_244 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let c1_i32_127 : BitVec 32 := 1#32
  let arg10 : BitVec 32 := Scf.iv c1_i32_125 c1_i32_127 k0_t7
  let v256 : BitVec 32 := Scalar.addi v2 arg10
  let c32_i32_240 : BitVec 32 := 32#32
  let v257 : BitVec 32 := Scalar.remsi v256 c32_i32_240
  let c0_i32_250 : BitVec 32 := 0#32
  let c0_i32_251 : BitVec 32 := 0#32
  ![1, v257.toNat, 0, 0]
@[reducible] def k0_t8_loop : Scf.Loop 32 :=
  let c1_i32_150 : BitVec 32 := 1#32
  let c31_i32_151 : BitVec 32 := 31#32
  let v186 : BitVec 32 := Scalar.addi c1_i32_150 c31_i32_151
  let c1_i32_152 : BitVec 32 := 1#32
  ⟨c1_i32_150, v186, c1_i32_152⟩
def k0_off21 (d0 : Dev nD) (k0_t8 : Fin k0_t8_loop.trips) : Fin 2 → Nat :=
  let c2_i32_245 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_150 : BitVec 32 := 1#32
  let c1_i32_152 : BitVec 32 := 1#32
  let arg10 : BitVec 32 := Scf.iv c1_i32_150 c1_i32_152 k0_t8
  let v258 : BitVec 32 := Scalar.addi v2 arg10
  let c32_i32_241 : BitVec 32 := 32#32
  let v259 : BitVec 32 := Scalar.remsi v258 c32_i32_241
  ![2, v259.toNat]
def k0_off22 (d0 : Dev nD) (k0_t8 : Fin k0_t8_loop.trips) : Fin 4 → Nat :=
  let c2_i32_244 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_150 : BitVec 32 := 1#32
  let c1_i32_152 : BitVec 32 := 1#32
  let arg10 : BitVec 32 := Scf.iv c1_i32_150 c1_i32_152 k0_t8
  let v256 : BitVec 32 := Scalar.addi v2 arg10
  let c32_i32_240 : BitVec 32 := 32#32
  let v257 : BitVec 32 := Scalar.remsi v256 c32_i32_240
  let c0_i32_250 : BitVec 32 := 0#32
  let c0_i32_251 : BitVec 32 := 0#32
  ![2, v257.toNat, 0, 0]
@[reducible] def k0_t9_loop : Scf.Loop 32 :=
  let c1_i32_175 : BitVec 32 := 1#32
  let c31_i32_176 : BitVec 32 := 31#32
  let v209 : BitVec 32 := Scalar.addi c1_i32_175 c31_i32_176
  let c1_i32_177 : BitVec 32 := 1#32
  ⟨c1_i32_175, v209, c1_i32_177⟩
def k0_off23 (d0 : Dev nD) (k0_t9 : Fin k0_t9_loop.trips) : Fin 2 → Nat :=
  let c3_i32_245 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_175 : BitVec 32 := 1#32
  let c1_i32_177 : BitVec 32 := 1#32
  let arg10 : BitVec 32 := Scf.iv c1_i32_175 c1_i32_177 k0_t9
  let v258 : BitVec 32 := Scalar.addi v2 arg10
  let c32_i32_241 : BitVec 32 := 32#32
  let v259 : BitVec 32 := Scalar.remsi v258 c32_i32_241
  ![3, v259.toNat]
def k0_off24 (d0 : Dev nD) (k0_t9 : Fin k0_t9_loop.trips) : Fin 4 → Nat :=
  let c3_i32_244 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_175 : BitVec 32 := 1#32
  let c1_i32_177 : BitVec 32 := 1#32
  let arg10 : BitVec 32 := Scf.iv c1_i32_175 c1_i32_177 k0_t9
  let v256 : BitVec 32 := Scalar.addi v2 arg10
  let c32_i32_240 : BitVec 32 := 32#32
  let v257 : BitVec 32 := Scalar.remsi v256 c32_i32_240
  let c0_i32_250 : BitVec 32 := 0#32
  let c0_i32_251 : BitVec 32 := 0#32
  ![3, v257.toNat, 0, 0]
@[reducible] def k0_t10_loop : Scf.Loop 32 :=
  let c1_i32_206 : BitVec 32 := 1#32
  let c31_i32_207 : BitVec 32 := 31#32
  let v237 : BitVec 32 := Scalar.addi c1_i32_206 c31_i32_207
  let c1_i32_208 : BitVec 32 := 1#32
  ⟨c1_i32_206, v237, c1_i32_208⟩
def k0_off25 (k0_t10 : Fin k0_t10_loop.trips) : Fin 2 → Nat :=
  let c0_i32_243 : BitVec 32 := 0#32
  let c1_i32_206 : BitVec 32 := 1#32
  let c1_i32_208 : BitVec 32 := 1#32
  let arg10 : BitVec 32 := Scf.iv c1_i32_206 c1_i32_208 k0_t10
  ![0, arg10.toNat]
def k0_off26 (d0 : Dev nD) : Fin 4 → Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_246 : BitVec 32 := 0#32
  let c0_i32_247 : BitVec 32 := 0#32
  ![0, v2.toNat, 0, 0]
@[reducible] def k0_t11_loop : Scf.Loop 32 :=
  let c1_i32_216 : BitVec 32 := 1#32
  let c31_i32_217 : BitVec 32 := 31#32
  let v243 : BitVec 32 := Scalar.addi c1_i32_216 c31_i32_217
  let c1_i32_218 : BitVec 32 := 1#32
  ⟨c1_i32_216, v243, c1_i32_218⟩
def k0_off27 (k0_t11 : Fin k0_t11_loop.trips) : Fin 2 → Nat :=
  let c1_i32_243 : BitVec 32 := 1#32
  let c1_i32_216 : BitVec 32 := 1#32
  let c1_i32_218 : BitVec 32 := 1#32
  let arg10 : BitVec 32 := Scf.iv c1_i32_216 c1_i32_218 k0_t11
  ![1, arg10.toNat]
def k0_off28 (d0 : Dev nD) : Fin 4 → Nat :=
  let c1_i32_242 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_246 : BitVec 32 := 0#32
  let c0_i32_247 : BitVec 32 := 0#32
  ![1, v2.toNat, 0, 0]
@[reducible] def k0_t12_loop : Scf.Loop 32 :=
  let c1_i32_226 : BitVec 32 := 1#32
  let c31_i32_227 : BitVec 32 := 31#32
  let v249 : BitVec 32 := Scalar.addi c1_i32_226 c31_i32_227
  let c1_i32_228 : BitVec 32 := 1#32
  ⟨c1_i32_226, v249, c1_i32_228⟩
def k0_off29 (k0_t12 : Fin k0_t12_loop.trips) : Fin 2 → Nat :=
  let c2_i32_243 : BitVec 32 := 2#32
  let c1_i32_226 : BitVec 32 := 1#32
  let c1_i32_228 : BitVec 32 := 1#32
  let arg10 : BitVec 32 := Scf.iv c1_i32_226 c1_i32_228 k0_t12
  ![2, arg10.toNat]
def k0_off30 (d0 : Dev nD) : Fin 4 → Nat :=
  let c2_i32_242 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_246 : BitVec 32 := 0#32
  let c0_i32_247 : BitVec 32 := 0#32
  ![2, v2.toNat, 0, 0]
@[reducible] def k0_t13_loop : Scf.Loop 32 :=
  let c1_i32_236 : BitVec 32 := 1#32
  let c31_i32_237 : BitVec 32 := 31#32
  let v255 : BitVec 32 := Scalar.addi c1_i32_236 c31_i32_237
  let c1_i32_238 : BitVec 32 := 1#32
  ⟨c1_i32_236, v255, c1_i32_238⟩
def k0_off31 (k0_t13 : Fin k0_t13_loop.trips) : Fin 2 → Nat :=
  let c3_i32_243 : BitVec 32 := 3#32
  let c1_i32_236 : BitVec 32 := 1#32
  let c1_i32_238 : BitVec 32 := 1#32
  let arg10 : BitVec 32 := Scf.iv c1_i32_236 c1_i32_238 k0_t13
  ![3, arg10.toNat]
def k0_off32 (d0 : Dev nD) : Fin 4 → Nat :=
  let c3_i32_242 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_246 : BitVec 32 := 0#32
  let c0_i32_247 : BitVec 32 := 0#32
  ![3, v2.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x32768 : Shape := ⟨2, ![2048, 32768]⟩
abbrev S32768 : Shape := ⟨1, ![32768]⟩
abbrev S_ : Shape := ⟨0, ![]⟩
abbrev S2048 : Shape := ⟨1, ![2048]⟩
abbrev S2048x1 : Shape := ⟨2, ![2048, 1]⟩
abbrev S1x32768 : Shape := ⟨2, ![1, 32768]⟩

abbrev nBuf : Space → Nat
  | .hbm => 18
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768, .f32⟩
  | .hbm, ⟨2, _⟩ => ⟨S2048x32768, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S1x32768, .f32⟩
  | .hbm, ⟨14, _⟩ => ⟨S2048x32768, .f32⟩
  | .hbm, ⟨15, _⟩ => ⟨S2048x32768, .f32⟩
  | .hbm, ⟨16, _⟩ => ⟨S2048x32768, .f32⟩
  | .hbm, ⟨17, _⟩ => ⟨S2048x32768, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Protocol.lean ====
/-
  The kernel's protocol: its buffers cut into the pieces that travel, what each piece holds, the cells (one
  per semaphore and device) and the schedule of who pays which cell with what.

  Device `c` signals every other device's barrier once, which lends the four slots `(b, p)` of its exchange
  buffer to device `p`. After the barrier, device `c` sends its partial sums of row block `b` from its own slot
  `(b, c)` into the slot `(b, c)` of every other device. The exchange buffer therefore ends up with the same
  contents on every device, `commF`. Each row block of `x` comes in by a copy of its own and each row block of the
  result goes out by a copy of its own.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.ViewIndex
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open scoped Idealize.SL.RA.PCS
open Idealize.ShloMosaic.Pipeline (Dat Cfg Window BodyObligation cellOf)

variable {F : FTy → Type} [FloatOps F]

/-! ## The resource algebra: the pipeline's copy beside the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The device that device `c` addresses on trip `t`: `t + 1` places further round the ring. -/
def peer (c : Dev nD) (t : Fin 31) : Dev nD := ⟨(c.val + t.val + 1) % 32, Nat.mod_lt _ (by decide)⟩

theorem peer_ne (c : Dev nD) (t : Fin 31) : peer c t ≠ c := by
  intro h
  have h' := congrArg Fin.val h
  have := c.isLt; have := t.isLt
  simp only [peer] at h'
  omega

theorem peer_injective (c : Dev nD) : Function.Injective (peer c) := by
  intro t t' h
  have h' := congrArg Fin.val h
  have := c.isLt; have := t.isLt; have := t'.isLt
  simp only [peer] at h'
  exact Fin.ext (by omega)

/-- The trips name every other device once. -/
theorem others_eq (c : Dev nD) : (Finset.univ.filter (· ≠ c) : Finset (Dev nD)) = Finset.univ.map ⟨peer c, peer_injective c⟩ := by
  ext p
  rw [Finset.mem_filter, Finset.mem_map]
  constructor
  · rintro ⟨-, hp⟩
    have hv : p.val ≠ c.val := fun h => hp (Fin.ext h)
    have hpl : p.val < 32 := p.isLt
    have hcl : c.val < 32 := c.isLt
    refine ⟨⟨(p.val + 32 - c.val - 1) % 32, ?_⟩, Finset.mem_univ _, Fin.ext ?_⟩
    · change _ < 31; omega
    · change (c.val + (p.val + 32 - c.val - 1) % 32 + 1) % 32 = p.val
      omega
  · rintro ⟨t, -, rfl⟩
    exact ⟨Finset.mem_univ _, peer_ne c t⟩

/-! ## The semaphores -/

/-- The runtime's barrier semaphore. -/
abbrev barS : Sem sig := (SemArray.scalar (sig.barrier 0 rfl) : Sems sig S_).sem
/-- Row block `b`'s copy in, and its copy out. -/
def inS (b : Fin 4) : DmaSem sig := ⟨1 + b.val, by have := b.isLt; show _ < 265; omega⟩
def outS (b : Fin 4) : DmaSem sig := ⟨5 + b.val, by have := b.isLt; show _ < 265; omega⟩
/-- The send of row block `b` on trip `t`. -/
def sendS (b : Fin 4) (t : Fin 31) : DmaSem sig := ⟨9 + 32 * b.val + (t.val + 1), by have := b.isLt; have := t.isLt; show _ < 265; omega⟩
/-- The arrival of device `j`'s row block `b`. -/
def recvS (b : Fin 4) (j : Dev nD) : DmaSem sig := ⟨137 + 32 * b.val + j.val, by have := b.isLt; have h : j.val < 32 := j.isLt; show _ < 265; omega⟩

abbrev barCell (c : Dev nD) : GSem nD τ sig := ((c : Thread nD τ), .reg barS)
abbrev inCell (c : Dev nD) (b : Fin 4) : GSem nD τ sig := ((c : Thread nD τ), .dma (inS b))
abbrev outCell (c : Dev nD) (b : Fin 4) : GSem nD τ sig := ((c : Thread nD τ), .dma (outS b))
abbrev sendCell (c : Dev nD) (b : Fin 4) (t : Fin 31) : GSem nD τ sig := ((c : Thread nD τ), .dma (sendS b t))
abbrev recvCell (c : Dev nD) (b : Fin 4) (j : Dev nD) : GSem nD τ sig := ((c : Thread nD τ), .dma (recvS b j))

/-- What a semaphore is for. -/
inductive Role where
  | none
  | bar
  | inn (b : Fin 4)
  | out (b : Fin 4)
  | send (b : Fin 4) (d : Fin 32)
  | recv (b : Fin 4) (j : Fin 32)

/-- The role of a semaphore, read off its number. -/
def role : SemLoc sig → Role
  | .reg _ => .bar
  | .dma k =>
    if k.val = 0 then .none
    else if k.val < 5 then .inn ⟨(k.val - 1) % 4, Nat.mod_lt _ (by decide)⟩
    else if k.val < 9 then .out ⟨(k.val - 5) % 4, Nat.mod_lt _ (by decide)⟩
    else if k.val < 137 then .send ⟨((k.val - 9) / 32) % 4, Nat.mod_lt _ (by decide)⟩ ⟨(k.val - 9) % 32, Nat.mod_lt _ (by decide)⟩
    else .recv ⟨((k.val - 137) / 32) % 4, Nat.mod_lt _ (by decide)⟩ ⟨(k.val - 137) % 32, Nat.mod_lt _ (by decide)⟩

theorem role_bar : role (.reg barS) = .bar := rfl
theorem role_in (b : Fin 4) : role (.dma (inS b)) = .inn b := by fin_cases b <;> rfl
theorem role_out (b : Fin 4) : role (.dma (outS b)) = .out b := by fin_cases b <;> rfl
theorem role_send (b : Fin 4) (t : Fin 31) : role (.dma (sendS b t)) = .send b ⟨t.val + 1, by omega⟩ := by
  have hb := b.isLt; have ht := t.isLt
  have h0 : (sendS b t).val = 9 + 32 * b.val + (t.val + 1) := rfl
  unfold role
  simp only [h0]
  rw [if_neg (by omega), if_neg (by omega), if_neg (by omega), if_pos (by omega)]
  congr 1 <;> exact Fin.ext (by dsimp only; omega)
theorem role_recv (b : Fin 4) (j : Dev nD) : role (.dma (recvS b j)) = .recv b j := by
  have hb := b.isLt; have ht : j.val < 32 := j.isLt
  have h0 : (recvS b j).val = 137 + 32 * b.val + j.val := rfl
  unfold role
  simp only [h0]
  rw [if_neg (by omega), if_neg (by omega), if_neg (by omega), if_neg (by omega)]
  congr 1 <;> exact Fin.ext (by dsimp only; omega)

/-! ## The buffers and the pieces that travel -/

abbrev xM : Memref sig .tc .hbm S2048x1024 .f32 := Memref.whole main_arg0
abbrev gM : Memref sig .tc .vmem S1x1024 .f32 := Memref.whole cc0_stg0_0
abbrev yM : Memref sig .tc .hbm S2048x1024 .f32 := Memref.whole main_v2
abbrev xbM : Memref sig .tc .vmem S4x512x1024 .f32 := Memref.whole cc0_scratch0
abbrev obM : Memref sig .tc .vmem S4x512x1024 .f32 := Memref.whole cc0_scratch1
abbrev cmM : Memref sig .tc .vmem S4x32x4x128 .f32 := Memref.whole cc0_scratch2

theorem inbRow (b : Fin 4) : ∀ a, (![512 * b.val, 0] : Fin 2 → Nat) a + S512x1024.size a ≤ S2048x1024.size a := by
  revert b; decide
theorem inbBlk (b : Fin 4) : ∀ a, (![b.val, 0, 0] : Fin 3 → Nat) a + S1x512x1024.size a ≤ S4x512x1024.size a := by
  revert b; decide
theorem inbSlot (b : Fin 4) (j : Dev nD) : ∀ a, (![b.val, j.val, 0, 0] : Fin 4 → Nat) a + S1x1x4x128.size a ≤ S4x32x4x128.size a := by
  have hb := b.isLt; have hj : j.val < 32 := j.isLt
  intro a; fin_cases a
  · show b.val + 1 ≤ 4; omega
  · show j.val + 1 ≤ 32; omega
  · show 0 + 4 ≤ 4; omega
  · show 0 + 128 ≤ 128; omega
theorem inbTot (b : Fin 4) : ∀ a, (![b.val, 0, 0, 0] : Fin 4 → Nat) a + S1x32x4x128.size a ≤ S4x32x4x128.size a := by
  revert b; decide

/-- Row block `b` of `x` and of the result; -/
abbrev rowR (b : Fin 4) : Rect S2048x1024 := Rect.unit (s := S2048x1024) ![512 * b.val, 0] S512x1024.size (inbRow b)
/-- slot `b` of the two row buffers; -/
abbrev blkR (b : Fin 4) : Rect S4x512x1024 := Rect.unit (s := S4x512x1024) ![b.val, 0, 0] S1x512x1024.size (inbBlk b)
/-- slot `(b, j)` of the exchange buffer; -/
abbrev slotR (b : Fin 4) (j : Dev nD) : Rect S4x32x4x128 := Rect.unit (s := S4x32x4x128) ![b.val, j.val, 0, 0] S1x1x4x128.size (inbSlot b j)
/-- and all its slots of row block `b`. -/
abbrev totR (b : Fin 4) : Rect S4x32x4x128 := Rect.unit (s := S4x32x4x128) ![b.val, 0, 0, 0] S1x32x4x128.size (inbTot b)

/-- The pieces held, at a share and contents. -/
abbrev xPts (c : Dev nD) (b : Fin 4) (f : Buf (Elt F) ((c : Thread nD τ).loc main_arg0)) : sProp 𝕄 :=
  ((c : Thread nD τ).loc main_arg0) ↦[(rowR b).set]{fullShare} f
abbrev yPts (c : Dev nD) (b : Fin 4) (f : Buf (Elt F) ((c : Thread nD τ).loc main_v2)) : sProp 𝕄 :=
  ((c : Thread nD τ).loc main_v2) ↦[(rowR b).set]{fullShare} f
abbrev xbPts (c : Dev nD) (b : Fin 4) (f : Buf (Elt F) ((c : Thread nD τ).loc cc0_scratch0)) : sProp 𝕄 :=
  ((c : Thread nD τ).loc cc0_scratch0) ↦[(blkR b).set]{fullShare} f
abbrev obPts (c : Dev nD) (b : Fin 4) (f : Buf (Elt F) ((c : Thread nD τ).loc cc0_scratch1)) : sProp 𝕄 :=
  ((c : Thread nD τ).loc cc0_scratch1) ↦[(blkR b).set]{fullShare} f
abbrev cmPts (c : Dev nD) (b : Fin 4) (j : Dev nD) (q : PosShare TreeShare) (f : Buf (Elt F) ((c : Thread nD τ).loc cc0_scratch2)) : sProp 𝕄 :=
  ((c : Thread nD τ).loc cc0_scratch2) ↦[(slotR b j).set]{q} f

/-! ## What they hold -/

section Contents

variable (X : Dev nD → (main_arg0 : Ref sig .tc).ty.Contents (Elt F)) (G : Dev nD → (cc0_stg0_0 : Ref sig .tc).ty.Contents (Elt F))

/-- The row buffer once filled: slot `b` holds row block `b` of `x`. -/
def xbF (c : Dev nD) : (cc0_scratch0 : Ref sig .tc).ty.Contents (Elt F) := fun i =>
  X c (ix2 (n0 := 2048) (n1 := 1024) ⟨512 * (i 0).val + (i 1).val, by
    have h0 : (i 0).val < 4 := (i 0).isLt
    have h1 : (i 1).val < 512 := (i 1).isLt
    omega⟩ (i 2))

/-- Row block `b` of `x` as the kernel loads it. -/
def xblk (c : Dev nD) (b : Fin 4) : Vec F S1x512x1024 .f32 := xbM.view.readAt (Elt F) (blkR b).toLoadRect (xbF X c)

/-- Device `c`'s partial sums of row block `b`. -/
def part (c : Dev nD) (b : Fin 4) : FVec F S1x1x4x128 .f32 :=
  match b with
  | 0 => k0_pay8 (xblk X c 0)
  | 1 => k0_pay9 k0_pay7 (xblk X c 1)
  | 2 => k0_pay10 k0_pay7 (xblk X c 2)
  | 3 => k0_pay11 k0_pay7 (xblk X c 3)

/-- The exchange buffer once filled, the same on every device: slot `(b, j)` holds device `j`'s partial sums of
    row block `b`. -/
def cmF : (cc0_scratch2 : Ref sig .tc).ty.Contents (Elt F) := fun i =>
  part X (i 1) (i 0) (ix4 (n0 := 1) (n1 := 1) (n2 := 4) (n3 := 128) 0 0 (i 2) (i 3))

/-- Everyone's partial sums of row block `b` as the kernel loads them. -/
def tot (b : Fin 4) : Vec F S1x32x4x128 .f32 := cmM.view.readAt (Elt F) (totR b).toLoadRect (cmF X)

/-- The device's part of `gamma` as the kernel loads it. -/
def gld (c : Dev nD) : Vec F S1x1024 .f32 :=
  gM.view.readAt (Elt F) (Rect.unit (s := S1x1024) ![0, 0] S1x1024.size inb_S1x1024_S1x1024_0_0).toLoadRect (G c)

/-- The lane mask and the spread-out `gamma`. -/
def maskV : FVec F S512x128 .f32 := k0_pay5 (F := F) (iota .tc S512x128 32 [1] iota_S512x128_d1_w32) k0_pay2 k0_pay3 k0_pay4

/-- The result's row block `b`. -/
def oblk (c : Dev nD) (b : Fin 4) : FVec F S1x512x1024 .f32 :=
  match b with
  | 0 => k0_pay13 (k0_pay6 (gld G c)) (k0_pay12 k0_pay1 maskV (tot X 0)) (constant S512x1024 .f32 0x00000000#32) (xblk X c 0)
  | 1 => k0_pay15 (k0_pay14 k0_pay1 maskV (k0_pay6 (gld G c)) (tot X 1) (xblk X c 1))
  | 2 => k0_pay16 k0_pay1 maskV (k0_pay6 (gld G c)) (tot X 2) (xblk X c 2)
  | 3 => k0_pay17 k0_pay1 maskV (k0_pay6 (gld G c)) (tot X 3) (xblk X c 3)

/-- The result buffer once filled, and the result. -/
def obF (c : Dev nD) : (cc0_scratch1 : Ref sig .tc).ty.Contents (Elt F) := fun i =>
  oblk X G c (i 0) (ix3 (n0 := 1) (n1 := 512) (n2 := 1024) 0 (i 1) (i 2))
def yF (c : Dev nD) : (main_v2 : Ref sig .tc).ty.Contents (Elt F) := fun i =>
  obF X G c (ix3 (n0 := 4) (n1 := 512) (n2 := 1024) ⟨(i 0).val / 512, by have h0 : (i 0).val < 2048 := (i 0).isLt; omega⟩
    ⟨(i 0).val % 512, Nat.mod_lt _ (by decide)⟩ (i 1))

end Contents

/-! ## Shares: what is kept and what is lent by the sends from one slot -/

/-- The share kept after `k` sends. -/
def kept : ℕ → PosShare TreeShare
  | 0 => fullShare
  | k + 1 => (kept k).right
/-- The share lent to send number `k`. -/
def lent (k : ℕ) : PosShare TreeShare := (kept k).left

theorem kept_split (k : ℕ) : kept k ∈ lent k ·? kept (k + 1) := PosShare.mem_left_op_right (kept k)

/-! ## The schedule -/

/-- Bytes credited by a row block's copy and by a slot's. -/
def NX : ℕ := ((xbM.slice (blkR 0) (fun _ => rfl)).squeeze S512x1024 squeezes_S1x512x1024_S512x1024).view.dmaCredit
def NC : ℕ := ((cmM.slice (slotR 0 0) (fun _ => rfl)).squeeze S4x128 squeezes_S1x1x4x128_S4x128).view.dmaCredit

theorem NX_pos : 0 < NX := View.dmaCredit_pos _ (by decide)
theorem NC_pos : 0 < NC := View.dmaCredit_pos _ (by decide)

section Schedule

variable (X : Dev nD → (main_arg0 : Ref sig .tc).ty.Contents (Elt F)) (G : Dev nD → (cc0_stg0_0 : Ref sig .tc).ty.Contents (Elt F))

/-- A slot of `p`'s exchange buffer that device `c` sends into, and that the cell counting what arrives there is open. -/
abbrev slotFor (c : Dev nD) (b : Fin 4) (p : Dev nD) : sProp 𝕄 := iprop((∃ f, cmPts p b c fullShare f) ∗ reached ER (recvCell p b c) 0)
/-- What device `p`'s signal hands device `c`: the slots of `p`'s exchange buffer that `c` sends into. -/
def barPay (c p : Dev nD) : sProp 𝕄 := bigSep Finset.univ fun b : Fin 4 => slotFor c b p
def inPay (c : Dev nD) (b : Fin 4) : sProp 𝕄 := iprop(xbPts c b (xbF X c) ∗ xPts c b (X c))
def outPay (c : Dev nD) (b : Fin 4) : sProp 𝕄 := iprop(yPts c b (yF X G c) ∗ obPts c b (obF X G c))
def sendPay (c : Dev nD) (b : Fin 4) (k : ℕ) : sProp 𝕄 := cmPts c b c (lent k) (cmF X)
def recvPay (c : Dev nD) (b : Fin 4) (j : Dev nD) : sProp 𝕄 := cmPts c b j fullShare (cmF X)

omit [FloatOps F] in
instance barPay_storable (c p : Dev nD) : BI.Storable (upEmb : UEmb _ 𝕄) (barPay (F := F) c p) := by unfold barPay; infer_instance
instance inPay_storable (c : Dev nD) (b) : BI.Storable (upEmb : UEmb _ 𝕄) (inPay X c b) := by unfold inPay; infer_instance
instance outPay_storable (c : Dev nD) (b) : BI.Storable (upEmb : UEmb _ 𝕄) (outPay X G c b) := by unfold outPay; infer_instance
instance sendPay_storable (c : Dev nD) (b) (k) : BI.Storable (upEmb : UEmb _ 𝕄) (sendPay X c b k) := by unfold sendPay; infer_instance
instance recvPay_storable (c : Dev nD) (b) (j) : BI.Storable (upEmb : UEmb _ 𝕄) (recvPay X c b j) := by unfold recvPay; infer_instance

/-- The duties of device `c`'s cell of a role: its barrier is paid by every other device, a copy's cell once. -/
def dutiesOf (c : Dev nD) : Role → Finset (Dev nD)
  | .none => ∅
  | .bar => Finset.univ.filter (· ≠ c)
  | .inn _ => {0}
  | .out _ => {0}
  | .send _ d => if d.val = 0 then ∅ else {0}
  | .recv _ j => if j = c then ∅ else {0}

def amountOf : Role → ℕ
  | .none => 1
  | .bar => 1
  | .inn _ => NX
  | .out _ => NX
  | .send _ _ => NC
  | .recv _ _ => NC

def payOf (c : Dev nD) (p : Dev nD) : Role → sProp 𝕄
  | .none => iprop(emp)
  | .bar => barPay c p
  | .inn b => inPay X c b
  | .out b => outPay X G c b
  | .send b d => sendPay X c b (d.val - 1)
  | .recv b j => recvPay X c b j

/-- One round, round 0. -/
def sched : Rounds.Schedule (GSem nD τ sig) (Dev nD) 𝕄 where
  duties g r := if r = 0 ∧ g.1.2 = .tc then dutiesOf g.1.1 (role g.2) else ∅
  unitless _ := False
  amount g _ _ := amountOf (role g.2)
  payload g _ p := payOf X G g.1.1 p (role g.2)
  amount_pos g _ _ _ := by
    cases role g.2 <;> first | exact Nat.one_pos | exact NX_pos | exact NC_pos

instance sched_payload_storable (g : GSem nD τ sig) (r : ℕ) (p : Dev nD) :
    BI.Storable (upEmb : UEmb _ 𝕄) ((sched X G).payload g r p) := by
  show BI.Storable upEmb (payOf X G g.1.1 p (role g.2))
  cases role g.2 <;> (unfold payOf; infer_instance)

theorem duties_of (c : Dev nD) (sm : SemLoc sig) : (sched X G).duties ((c : Thread nD τ), sm) 0 = dutiesOf c (role sm) := by
  show (if (0 : ℕ) = 0 ∧ (Proc.tc : Proc τ) = .tc then dutiesOf c (role sm) else ∅) = _
  exact if_pos ⟨rfl, rfl⟩
theorem duties_later (g : GSem nD τ sig) : ∀ r, 1 ≤ r → (sched X G).duties g r = ∅ :=
  fun r hr => by
    show (if r = 0 ∧ g.1.2 = .tc then dutiesOf g.1.1 (role g.2) else ∅) = _
    exact if_neg fun h => by have := h.1; omega

theorem duties_bar (c : Dev nD) : (sched X G).duties (barCell c) 0 = Finset.univ.filter (· ≠ c) := duties_of X G c _
theorem duties_in (c : Dev nD) (b : Fin 4) : (sched X G).duties (inCell c b) 0 = {0} := by rw [duties_of, role_in]; rfl
theorem duties_out (c : Dev nD) (b : Fin 4) : (sched X G).duties (outCell c b) 0 = {0} := by rw [duties_of, role_out]; rfl
theorem duties_send (c : Dev nD) (b : Fin 4) (t : Fin 31) : (sched X G).duties (sendCell c b t) 0 = {0} := by
  rw [duties_of, role_send]
  show (if t.val + 1 = 0 then ∅ else {0}) = ({0} : Finset (Dev nD))
  exact if_neg (Nat.succ_ne_zero _)
theorem duties_recv (c : Dev nD) (b : Fin 4) (j : Dev nD) (h : j ≠ c) : (sched X G).duties (recvCell c b j) 0 = {0} := by
  rw [duties_of, role_recv]
  show (if j = c then ∅ else {0}) = ({0} : Finset (Dev nD))
  exact if_neg h

theorem amount_bar (c p : Dev nD) : (sched X G).amount (barCell c) 0 p = 1 := rfl
theorem amount_in (c p : Dev nD) (b : Fin 4) : (sched X G).amount (inCell c b) 0 p = NX := by
  show amountOf (role (.dma (inS b))) = _; rw [role_in]; rfl
theorem amount_out (c p : Dev nD) (b : Fin 4) : (sched X G).amount (outCell c b) 0 p = NX := by
  show amountOf (role (.dma (outS b))) = _; rw [role_out]; rfl
theorem amount_send (c p : Dev nD) (b : Fin 4) (t : Fin 31) : (sched X G).amount (sendCell c b t) 0 p = NC := by
  show amountOf (role (.dma (sendS b t))) = _; rw [role_send]; rfl
theorem amount_recv (c p : Dev nD) (b : Fin 4) (j : Dev nD) : (sched X G).amount (recvCell c b j) 0 p = NC := by
  show amountOf (role (.dma (recvS b j))) = _; rw [role_recv]; rfl

theorem payload_bar (c p : Dev nD) : (sched X G).payload (barCell c) 0 p = barPay c p := rfl
theorem payload_in (c p : Dev nD) (b : Fin 4) : (sched X G).payload (inCell c b) 0 p = inPay X c b := by
  show payOf X G c p (role (.dma (inS b))) = _; rw [role_in]; rfl
theorem payload_out (c p : Dev nD) (b : Fin 4) : (sched X G).payload (outCell c b) 0 p = outPay X G c b := by
  show payOf X G c p (role (.dma (outS b))) = _; rw [role_out]; rfl
theorem payload_send (c p : Dev nD) (b : Fin 4) (t : Fin 31) : (sched X G).payload (sendCell c b t) 0 p = sendPay X c b t.val := by
  show payOf X G c p (role (.dma (sendS b t))) = _; rw [role_send]; rfl
theorem payload_recv (c p : Dev nD) (b : Fin 4) (j : Dev nD) : (sched X G).payload (recvCell c b j) 0 p = recvPay X c b j := by
  show payOf X G c p (role (.dma (recvS b j))) = _; rw [role_recv]; rfl

theorem expect_bar (c : Dev nD) : (sched X G).expect (barCell c) 0 = 31 := by
  unfold Schedule.expect Schedule.amountOf
  rw [duties_bar, Finset.sum_congr rfl fun d _ => amount_bar X G c d, Finset.sum_const, others_eq, Finset.card_map, Finset.card_univ, Fintype.card_fin,
    smul_eq_mul]
theorem expect_in (c : Dev nD) (b : Fin 4) : (sched X G).expect (inCell c b) 0 = NX := by
  unfold Schedule.expect Schedule.amountOf; rw [duties_in, Finset.sum_singleton, amount_in]
theorem expect_out (c : Dev nD) (b : Fin 4) : (sched X G).expect (outCell c b) 0 = NX := by
  unfold Schedule.expect Schedule.amountOf; rw [duties_out, Finset.sum_singleton, amount_out]
theorem expect_send (c : Dev nD) (b : Fin 4) (t : Fin 31) : (sched X G).expect (sendCell c b t) 0 = NC := by
  unfold Schedule.expect Schedule.amountOf; rw [duties_send, Finset.sum_singleton, amount_send]
theorem expect_recv (c : Dev nD) (b : Fin 4) (j : Dev nD) (h : j ≠ c) : (sched X G).expect (recvCell c b j) 0 = NC := by
  unfold Schedule.expect Schedule.amountOf; rw [duties_recv X G c b j h, Finset.sum_singleton, amount_recv]

/-- What a wait takes out of each cell. -/
theorem rest_bar (c : Dev nD) : bigSep ((sched X G).duties (barCell c) 0 \ ∅) (fun d => (sched X G).payload (barCell c) 0 d)
    = bigSep Finset.univ fun t : Fin 31 => (barPay c (peer c t) : sProp 𝕄) := by
  rw [Finset.sdiff_empty, duties_bar, others_eq, bigSep_map]
  rfl
theorem rest_in (c : Dev nD) (b : Fin 4) : bigSep ((sched X G).duties (inCell c b) 0 \ ∅) (fun d => (sched X G).payload (inCell c b) 0 d) = inPay X c b := by
  rw [Finset.sdiff_empty, duties_in, bigSep_singleton, payload_in]
theorem rest_out (c : Dev nD) (b : Fin 4) : bigSep ((sched X G).duties (outCell c b) 0 \ ∅) (fun d => (sched X G).payload (outCell c b) 0 d) = outPay X G c b := by
  rw [Finset.sdiff_empty, duties_out, bigSep_singleton, payload_out]
theorem rest_send (c : Dev nD) (b : Fin 4) (t : Fin 31) :
    bigSep ((sched X G).duties (sendCell c b t) 0 \ ∅) (fun d => (sched X G).payload (sendCell c b t) 0 d) = sendPay X c b t.val := by
  rw [Finset.sdiff_empty, duties_send, bigSep_singleton, payload_send]
theorem rest_recv (c : Dev nD) (b : Fin 4) (j : Dev nD) (h : j ≠ c) :
    bigSep ((sched X G).duties (recvCell c b j) 0 \ ∅) (fun d => (sched X G).payload (recvCell c b j) 0 d) = recvPay X c b j := by
  rw [Finset.sdiff_empty, duties_recv X G c b j h, bigSep_singleton, payload_recv]

end Schedule

/-! ## What each device owes at launch, and the levels -/

/-- The signals still owed from trip `n` on, and the arrivals of row block `b` still owed from trip `n` on. -/
def oweBar (c : Dev nD) (n : ℕ) : CellTallies nD τ sig Unit := ∑ t ∈ Ring.rangeSet 31 n 31, tallyAt (barCell (peer c t)) () 1
def oweRecv (c : Dev nD) (b : Fin 4) (n : ℕ) : CellTallies nD τ sig Unit := ∑ t ∈ Ring.rangeSet 31 n 31, tallyAt (recvCell (peer c t) b c) () NC

theorem oweBar_step (c : Dev nD) (t : Fin 31) : oweBar c t.val = oweBar c (t.val + 1) + tallyAt (barCell (peer c t)) () 1 := by
  unfold oweBar
  rw [Ring.rangeSet_head t.isLt t.isLt, Finset.sum_insert (Ring.head_not_mem_rangeSet t.isLt), add_comm]
theorem oweRecv_step (c : Dev nD) (b : Fin 4) (t : Fin 31) :
    oweRecv c b t.val = oweRecv c b (t.val + 1) + tallyAt (recvCell (peer c t) b c) () NC := by
  unfold oweRecv
  rw [Ring.rangeSet_head t.isLt t.isLt, Finset.sum_insert (Ring.head_not_mem_rangeSet t.isLt), add_comm]
theorem oweBar_end (c : Dev nD) : oweBar c 31 = 0 := by
  unfold oweBar; rw [Ring.rangeSet_empty le_rfl, Finset.sum_empty]
theorem oweRecv_end (c : Dev nD) (b : Fin 4) : oweRecv c b 31 = 0 := by
  unfold oweRecv; rw [Ring.rangeSet_empty le_rfl, Finset.sum_empty]

/-- The arrivals owed, row block 0's peeled first. -/
def owe4 (c : Dev nD) : CellTallies nD τ sig Unit := oweRecv c 3 0
def owe3 (c : Dev nD) : CellTallies nD τ sig Unit := owe4 c + oweRecv c 2 0
def owe2 (c : Dev nD) : CellTallies nD τ sig Unit := owe3 c + oweRecv c 1 0
def owe1 (c : Dev nD) : CellTallies nD τ sig Unit := owe2 c + oweRecv c 0 0
/-- Everything owed at launch. -/
def owe0 (c : Dev nD) : CellTallies nD τ sig Unit := owe1 c + oweBar c 0

def L (g : GSem nD τ sig) : Finset Unit := if g.1.2 = .tc then {()} else ∅
/-- Barriers at 1, arrivals at 2, everything a device pays itself at 0. -/
def lv (g : GSem nD τ sig) (_ : Unit) : ℕ :=
  match role g.2 with
  | .bar => 1
  | .recv _ _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_in (c : Dev nD) (b : Fin 4) : lv (inCell c b) () = 0 := by unfold lv; rw [role_in]
theorem lv_recv (c : Dev nD) (b : Fin 4) (j : Dev nD) : lv (recvCell c b j) () = 2 := by unfold lv; rw [role_recv]

/-- A tally positive only at arrivals. -/
def OnlyRecv (O : CellTallies nD τ sig Unit) : Prop := ∀ g u, 0 < O g u → ∃ (p : Dev nD) (b : Fin 4) (j : Dev nD), g = recvCell p b j

theorem OnlyRecv.add {O O' : CellTallies nD τ sig Unit} (h : OnlyRecv O) (h' : OnlyRecv O') : OnlyRecv (O + O') := by
  intro g u hg
  rw [Pi.add_apply, Finsupp.add_apply] at hg
  rcases Nat.eq_zero_or_pos (O g u) with h0 | h0
  · exact h' g u (by omega)
  · exact h g u h0

theorem tally_pos {g₀ g : GSem nD τ sig} {u : Unit} {n : ℕ} (h : 0 < tallyAt g₀ () n g u) : g = g₀ := by
  rw [tallyAt_apply] at h
  by_contra hn
  rw [if_neg (fun h' => hn h'.1)] at h
  exact Nat.lt_irrefl 0 h

theorem sum_pos {S : Finset (Fin 31)} {A : Fin 31 → CellTallies nD τ sig Unit} {g : GSem nD τ sig} {u : Unit}
    (h : 0 < (∑ t ∈ S, A t) g u) : ∃ t, 0 < A t g u := by
  classical
  by_contra hn
  have hz : ∀ t, A t g u = 0 := fun t => Nat.eq_zero_of_not_pos fun h' => hn ⟨t, h'⟩
  rw [Finset.sum_apply, Finsupp.finsetSum_apply, Finset.sum_eq_zero (fun t _ => hz t)] at h
  exact Nat.lt_irrefl 0 h

theorem onlyRecv_oweRecv (c : Dev nD) (b : Fin 4) (n : ℕ) : OnlyRecv (oweRecv c b n) := by
  intro g u hg
  obtain ⟨t, ht⟩ := sum_pos hg
  exact ⟨_, _, _, tally_pos ht⟩

theorem onlyRecv4 (c : Dev nD) : OnlyRecv (owe4 c) := onlyRecv_oweRecv c 3 0
theorem onlyRecv3 (c : Dev nD) : OnlyRecv (owe3 c) := (onlyRecv4 c).add (onlyRecv_oweRecv c 2 0)
theorem onlyRecv2 (c : Dev nD) : OnlyRecv (owe2 c) := (onlyRecv3 c).add (onlyRecv_oweRecv c 1 0)
theorem onlyRecv1 (c : Dev nD) : OnlyRecv (owe1 c) := (onlyRecv2 c).add (onlyRecv_oweRecv c 0 0)

theorem owe0_pos {c : Dev nD} {g : GSem nD τ sig} {u : Unit} (h : 0 < owe0 c g u) :
    (∃ p, g = barCell p) ∨ ∃ (p : Dev nD) (b : Fin 4) (j : Dev nD), g = recvCell p b j := by
  unfold owe0 at h
  rw [Pi.add_apply, Finsupp.add_apply] at h
  rcases Nat.eq_zero_or_pos (owe1 c g u) with h0 | h0
  · obtain ⟨t, ht⟩ := sum_pos (show 0 < oweBar c 0 g u by omega)
    exact .inl ⟨_, tally_pos ht⟩
  · exact .inr (onlyRecv1 c g u h0)

omit [FloatOps F] in
/-- Waiting below the arrivals while owing arrivals only. -/
theorem mayWait_recv (c : Dev nD) (sm : SemLoc sig) (k : ℕ) (hk : k < 2) (hl : lv ((c : Thread nD τ), sm) () = k)
    (O : CellTallies nD τ sig Unit) (hO : OnlyRecv O) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by obtain ⟨p, b, j, rfl⟩ := hO g u hg; exact Finset.mem_singleton_self _)
    (fun p hp => by rw [Finset.mem_singleton.mp hp]; exact hl.le)
    (fun g u hg => by obtain ⟨p, b, j, rfl⟩ := hO g u hg; rw [show lv (recvCell p b j) u = 2 from lv_recv p b j]; exact hk)

omit [FloatOps F] in
/-- The staging copy may be waited for whatever is owed. -/
theorem mayWait_stage (c : Dev nD) (q : DmaSem sig) (hq : lv ((c : Thread nD τ), .dma q) () = 0) (O : CellTallies nD τ sig Unit)
    (hO : O = owe0 c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owe0_pos hg with ⟨p, rfl⟩ | ⟨p, b, j, rfl⟩ <;> exact Finset.mem_singleton_self _)
      (fun p hp => by rw [Finset.mem_singleton.mp hp]; exact hq.le)
      (fun g u hg => by
        rcases owe0_pos hg with ⟨p, rfl⟩ | ⟨p, b, j, rfl⟩
        · exact Nat.one_pos
        · rw [show lv (recvCell p b j) u = 2 from lv_recv p b j]; decide)
  · rw [MayWait_zero]; iintro -; iempintro

end Cert.KernelIdealProof

end
-- ==== Proof.Views.lean ====
/-
  The kernel's slices: which elements each names, what each reads, and the buffers cut into them.
-/
module

public import proofs.«01_k».proof.Proof.Protocol

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

/-! ## A view written with what it reads from other contents holds those contents -/

omit [FloatOps F] in
theorem pointsTo_written {κ : Kind} {sp : Space} {s : Shape} {e : EltTy} (v : View sig κ sp s e) (t : Thread nD τ) (hκ : κ = t.2.kind)
    (w : s.Idx → Elt F e) (f g : v.ty.Contents (Elt F)) (h : v.read (Elt F) g = w) :
    ∀ i ∈ v.set, v.write (Elt F) f w Finset.univ i = g i := by
  intro i hi
  obtain ⟨x, -, rfl⟩ := Finset.mem_map.mp hi
  exact View.eq_of_read_eq (by rw [View.read_write_univ, h])

/-! ## The slices the kernel names -/

section Sems

theorem semAt2 (base : ℕ) (h : base + S4x32.numel ≤ sig.nDmaSem) (b d : ℕ) {off : Fin 2 → ℕ} (hoff : off = ![b, d])
    (inb : ∀ a, off a + S1x1.size a ≤ S4x32.size a) :
    ((((SemArray.consecutive base S4x32 h : DmaSems sig S4x32).slice (Rect.unit (s := S4x32) off S1x1.size inb)).squeeze S_ squeezes_S1x1_S_).sem : DmaSem sig).val
      = base + 32 * b + d := by
  subst hoff
  generalize hj : (Shape.reshapeEquiv (squeezes_S1x1_S_).numel_eq fun i => i.elim0 : S1x1.Idx) = j
  have e : ((((SemArray.consecutive base S4x32 h : DmaSems sig S4x32).slice (Rect.unit (s := S4x32) ![b, d] S1x1.size inb)).squeeze S_ squeezes_S1x1_S_).sem : DmaSem sig).val
      = base + (S4x32.rowMajor ((Rect.unit (s := S4x32) ![b, d] S1x1.size inb).emb j)).val := by
    rw [← hj]; rfl
  rw [e, Shape.rowMajor_val_two]
  have h0 : (j 0).val < 1 := (j 0).isLt
  have h1 : (j 1).val < 1 := (j 1).isLt
  show base + ((b + 1 * (j 0).val) * 32 + (d + 1 * (j 1).val)) = _
  omega

theorem semSend (b : Fin 4) (t : Fin 31) {off : Fin 2 → ℕ} (hoff : off = ![b.val, t.val + 1]) (inb : ∀ a, off a + S1x1.size a ≤ S4x32.size a) :
    ((cc0_scratch5.slice (Rect.unit (s := S4x32) off S1x1.size inb)).squeeze S_ squeezes_S1x1_S_).sem = sendS b t :=
  Fin.ext (semAt2 9 hcc0_scratch5 b.val (t.val + 1) hoff inb)
theorem semRecv (b : Fin 4) (j : Dev nD) {off : Fin 2 → ℕ} (hoff : off = ![b.val, j.val]) (inb : ∀ a, off a + S1x1.size a ≤ S4x32.size a) :
    ((cc0_scratch6.slice (Rect.unit (s := S4x32) off S1x1.size inb)).squeeze S_ squeezes_S1x1_S_).sem = recvS b j :=
  Fin.ext (semAt2 137 hcc0_scratch6 b.val j.val hoff inb)

end Sems

/-- The four kinds of piece as memrefs. -/
abbrev rowM (M : Memref sig .tc .hbm S2048x1024 .f32) (off : Fin 2 → ℕ) (inb : ∀ a, off a + S512x1024.size a ≤ S2048x1024.size a) :
    Memref sig .tc .hbm S512x1024 .f32 := M.slice (Rect.unit (s := S2048x1024) off S512x1024.size inb) (fun _ => rfl)
abbrev blkM (M : Memref sig .tc .vmem S4x512x1024 .f32) (off : Fin 3 → ℕ) (inb : ∀ a, off a + S1x512x1024.size a ≤ S4x512x1024.size a) :
    Memref sig .tc .vmem S512x1024 .f32 :=
  (M.slice (Rect.unit (s := S4x512x1024) off S1x512x1024.size inb) (fun _ => rfl)).squeeze S512x1024 squeezes_S1x512x1024_S512x1024
abbrev slotM (off : Fin 4 → ℕ) (inb : ∀ a, off a + S1x1x4x128.size a ≤ S4x32x4x128.size a) : Memref sig .tc .vmem S4x128 .f32 :=
  (cmM.slice (Rect.unit (s := S4x32x4x128) off S1x1x4x128.size inb) (fun _ => rfl)).squeeze S4x128 squeezes_S1x1x4x128_S4x128

theorem slotM_set (off) (inb) : (slotM off inb).view.set = (Rect.unit (s := S4x32x4x128) off S1x1x4x128.size inb).set := by
  exact (View.set_reshape _ _).trans (View.set_slice_whole _ _)
theorem xrow_set (off) (inb) : (rowM xM off inb).view.set = (Rect.unit (s := S2048x1024) off S512x1024.size inb).set := by
  exact View.set_slice_whole _ _
theorem yrow_set (off) (inb) : (rowM yM off inb).view.set = (Rect.unit (s := S2048x1024) off S512x1024.size inb).set := by
  exact View.set_slice_whole _ _
theorem xblk_set (off) (inb) : (blkM xbM off inb).view.set = (Rect.unit (s := S4x512x1024) off S1x512x1024.size inb).set := by
  exact (View.set_reshape _ _).trans (View.set_slice_whole _ _)
theorem oblk_set (off) (inb) : (blkM obM off inb).view.set = (Rect.unit (s := S4x512x1024) off S1x512x1024.size inb).set := by
  exact (View.set_reshape _ _).trans (View.set_slice_whole _ _)

/-! ## What the pieces read -/

section Reads

variable (X : Dev nD → (main_arg0 : Ref sig .tc).ty.Contents (Elt F)) (G : Dev nD → (cc0_stg0_0 : Ref sig .tc).ty.Contents (Elt F))

omit [FloatOps F] in
theorem blk_read (M : Memref sig .tc .vmem S4x512x1024 .f32) (b : Fin 4) (g : M.view.ty.Contents (Elt F)) (i : S512x1024.Idx) :
    (blkM M ![b.val, 0, 0] (inbBlk b)).view.read (Elt F) g i = M.view.read (Elt F) g (ix3 (n0 := 4) (n1 := 512) (n2 := 1024) b (i 0) (i 1)) := by
  have hi : i = ix2 (n0 := 512) (n1 := 1024) (i 0) (i 1) := by funext a; fin_cases a <;> rfl
  have e : Shape.reshapeEquiv (squeezes_S1x512x1024_S512x1024).numel_eq i = ix3 (n0 := 1) (n1 := 512) (n2 := 1024) ⟨0, Nat.one_pos⟩ (i 0) (i 1) := by
    conv_lhs => rw [hi]
    exact ValueIdx.reshapeEquiv_ix2_1ab _ _ _
  show M.view.read (Elt F) g ((blkR b).emb (Shape.reshapeEquiv (squeezes_S1x512x1024_S512x1024).numel_eq i)) = _
  rw [e]
  congr 1
  funext a; fin_cases a <;> refine Fin.ext ?_
  · show b.val + 1 * 0 = b.val; omega
  · show 0 + 1 * (i 0).val = (i 0).val; omega
  · show 0 + 1 * (i 1).val = (i 1).val; omega

omit [FloatOps F] in
theorem row_read (M : Memref sig .tc .hbm S2048x1024 .f32) (b : Fin 4) (g : M.view.ty.Contents (Elt F)) (i : S512x1024.Idx) :
    (rowM M ![512 * b.val, 0] (inbRow b)).view.read (Elt F) g i = M.view.read (Elt F) g (ix2 (n0 := 2048) (n1 := 1024) ⟨512 * b.val + (i 0).val, by
      have hb := b.isLt
      have h1 : (i 0).val < 512 := (i 0).isLt
      omega⟩ (i 1)) := by
  show M.view.read (Elt F) g ((rowR b).emb i) = _
  congr 1
  funext a; fin_cases a <;> refine Fin.ext ?_
  · show 512 * b.val + 1 * (i 0).val = 512 * b.val + (i 0).val; omega
  · show 0 + 1 * (i 1).val = (i 1).val; omega

omit [FloatOps F] in
/-- A filled slot of the row buffer reads what the row block of `x` reads, -/
theorem read_in (c : Dev nD) (b : Fin 4) :
    (blkM xbM ![b.val, 0, 0] (inbBlk b)).view.read (Elt F) (xbF X c) = (rowM xM ![512 * b.val, 0] (inbRow b)).view.read (Elt F) (X c) := by
  funext i
  rw [blk_read, row_read]
  rfl

/-- a row block of the result what the slot of the result buffer reads, -/
theorem read_out (c : Dev nD) (b : Fin 4) :
    (rowM yM ![512 * b.val, 0] (inbRow b)).view.read (Elt F) (yF X G c) = (blkM obM ![b.val, 0, 0] (inbBlk b)).view.read (Elt F) (obF X G c) := by
  funext i
  rw [blk_read, row_read]
  have h1 : (i 0).val < 512 := (i 0).isLt
  show obF X G c (ix3 (n0 := 4) (n1 := 512) (n2 := 1024) ⟨(512 * b.val + (i 0).val) / 512, _⟩ ⟨(512 * b.val + (i 0).val) % 512, _⟩ (i 1)) = obF X G c (ix3 b (i 0) (i 1))
  congr 1
  funext a; fin_cases a
  · exact Fin.ext (show (512 * b.val + (i 0).val) / 512 = b.val by omega)
  · exact Fin.ext (show (512 * b.val + (i 0).val) % 512 = (i 0).val by omega)
  · rfl

/-- a filled slot of the result buffer the block stored there, -/
theorem read_ob (c : Dev nD) (b : Fin 4) : (obM.access (blkR b)).read (Elt F) (obF X G c) = oblk X G c b := by
  funext i
  have h0 : (i 0).val < 1 := (i 0).isLt
  show obF X G c ((blkR b).emb i) = _
  unfold obF
  have e0 : (blkR b).emb i 0 = b := Fin.ext (show b.val + 1 * (i 0).val = b.val by omega)
  have e1 : (ix3 (n0 := 1) (n1 := 512) (n2 := 1024) 0 ((blkR b).emb i 1) ((blkR b).emb i 2) : S1x512x1024.Idx) = i := by
    funext a; fin_cases a <;> refine Fin.ext ?_
    · show 0 = (i 0).val; omega
    · show 0 + 1 * (i 1).val = (i 1).val; omega
    · show 0 + 1 * (i 2).val = (i 2).val; omega
  rw [e0, e1]

/-- and a filled slot of the exchange buffer the sums stored there. -/
theorem read_cm (c : Dev nD) (b : Fin 4) : (cmM.access (slotR b c)).read (Elt F) (cmF X) = part X c b := by
  funext i
  have h0 : (i 0).val < 1 := (i 0).isLt
  have h1 : (i 1).val < 1 := (i 1).isLt
  show cmF X ((slotR b c).emb i) = _
  unfold cmF
  have e0 : (slotR b c).emb i 0 = b := Fin.ext (show b.val + 1 * (i 0).val = b.val by omega)
  have e1 : (slotR b c).emb i 1 = c := Fin.ext (show c.val + 1 * (i 1).val = c.val by omega)
  have e2 : (ix4 (n0 := 1) (n1 := 1) (n2 := 4) (n3 := 128) 0 0 ((slotR b c).emb i 2) ((slotR b c).emb i 3) : S1x1x4x128.Idx) = i := by
    funext a; fin_cases a <;> refine Fin.ext ?_
    · show 0 = (i 0).val; omega
    · show 0 = (i 1).val; omega
    · show 0 + 1 * (i 2).val = (i 2).val; omega
    · show 0 + 1 * (i 3).val = (i 3).val; omega
  rw [e0, e1, e2]

end Reads

/-! ## The buffers held piece by piece -/

theorem row_disjoint (b b' : Fin 4) (h : b ≠ b') : Disjoint (rowR b).set (rowR b').set := by
  have hv : b.val ≠ b'.val := fun e => h (Fin.ext e)
  exact Rect.unit_disjoint 0 (show 512 * b.val + 512 ≤ 512 * b'.val ∨ 512 * b'.val + 512 ≤ 512 * b.val by omega)
theorem row_cover (i : S2048x1024.Idx) : ∃ b : Fin 4, i ∈ (rowR b).set := by
  have h0 : (i 0).val < 2048 := (i 0).isLt
  have h1 : (i 1).val < 1024 := (i 1).isLt
  refine ⟨⟨(i 0).val / 512, by omega⟩, Rect.mem_set_unit.mpr fun a => ?_⟩
  fin_cases a
  · show 512 * ((i 0).val / 512) ≤ (i 0).val ∧ (i 0).val < 512 * ((i 0).val / 512) + 512; omega
  · show 0 ≤ (i 1).val ∧ (i 1).val < 0 + 1024; omega
theorem blk_disjoint (b b' : Fin 4) (h : b ≠ b') : Disjoint (blkR b).set (blkR b').set := by
  have hv : b.val ≠ b'.val := fun e => h (Fin.ext e)
  exact Rect.unit_disjoint 0 (show b.val + 1 ≤ b'.val ∨ b'.val + 1 ≤ b.val by omega)
theorem blk_cover (i : S4x512x1024.Idx) : ∃ b : Fin 4, i ∈ (blkR b).set := by
  have h0 : (i 0).val < 4 := (i 0).isLt
  have h1 : (i 1).val < 512 := (i 1).isLt
  have h2 : (i 2).val < 1024 := (i 2).isLt
  refine ⟨i 0, Rect.mem_set_unit.mpr fun a => ?_⟩
  fin_cases a
  · show (i 0).val ≤ (i 0).val ∧ (i 0).val < (i 0).val + 1; omega
  · show 0 ≤ (i 1).val ∧ (i 1).val < 0 + 512; omega
  · show 0 ≤ (i 2).val ∧ (i 2).val < 0 + 1024; omega
theorem slot_disjoint (p p' : Fin 4 × Dev nD) (h : p ≠ p') : Disjoint (slotR p.1 p.2).set (slotR p'.1 p'.2).set := by
  by_cases h1 : p.1 = p'.1
  · have hv : p.2.val ≠ p'.2.val := fun e => h (Prod.ext h1 (Fin.ext e))
    exact Rect.unit_disjoint 1 (show p.2.val + 1 ≤ p'.2.val ∨ p'.2.val + 1 ≤ p.2.val by omega)
  · have hv : p.1.val ≠ p'.1.val := fun e => h1 (Fin.ext e)
    exact Rect.unit_disjoint 0 (show p.1.val + 1 ≤ p'.1.val ∨ p'.1.val + 1 ≤ p.1.val by omega)
theorem slot_cover (i : S4x32x4x128.Idx) : ∃ p : Fin 4 × Dev nD, i ∈ (slotR p.1 p.2).set := by
  have h2 : (i 2).val < 4 := (i 2).isLt
  have h3 : (i 3).val < 128 := (i 3).isLt
  refine ⟨(i 0, i 1), Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 4; omega
  · show 0 ≤ (i 3).val ∧ (i 3).val < 0 + 128; omega

/-- The slots of one row block together. -/
theorem tot_mem (b : Fin 4) (i : S4x32x4x128.Idx) : i ∈ (totR b).set ↔ ∃ j : Dev nD, i ∈ (slotR b j).set := by
  have h1 : (i 1).val < 32 := (i 1).isLt
  rw [Rect.mem_set_unit]
  constructor
  · intro h
    refine ⟨i 1, Rect.mem_set_unit.mpr fun a => ?_⟩
    have ha := h a
    fin_cases a
    · exact ha
    · show (i 1).val ≤ (i 1).val ∧ (i 1).val < (i 1).val + 1; omega
    · exact ha
    · exact ha
  · rintro ⟨j, h⟩ a
    have ha := Rect.mem_set_unit.mp h a
    fin_cases a
    · exact ha
    · show 0 ≤ (i 1).val ∧ (i 1).val < 0 + 32; omega
    · exact ha
    · exact ha

omit [FloatOps F] in
theorem x_split (c : Dev nD) (f : Buf (Elt F) ((c : Thread nD τ).loc main_arg0)) :
    (((c : Thread nD τ).loc main_arg0) ↦{fullShare} f : sProp 𝕄) = bigSep Finset.univ fun b : Fin 4 => xPts c b f :=
  Ring.pointsTo_blocks (ℓ := (c : Thread nD τ).loc main_arg0) (fun b : Fin 4 => (rowR b).set) row_disjoint
    (Finset.eq_univ_of_forall fun i => Finset.mem_biUnion.mpr (((row_cover i).elim fun b h => ⟨b, Finset.mem_univ _, h⟩))) f
omit [FloatOps F] in
theorem y_split (c : Dev nD) (f : Buf (Elt F) ((c : Thread nD τ).loc main_v2)) :
    (((c : Thread nD τ).loc main_v2) ↦{fullShare} f : sProp 𝕄) = bigSep Finset.univ fun b : Fin 4 => yPts c b f :=
  Ring.pointsTo_blocks (ℓ := (c : Thread nD τ).loc main_v2) (fun b : Fin 4 => (rowR b).set) row_disjoint
    (Finset.eq_univ_of_forall fun i => Finset.mem_biUnion.mpr (((row_cover i).elim fun b h => ⟨b, Finset.mem_univ _, h⟩))) f
omit [FloatOps F] in
theorem xb_split (c : Dev nD) (f : Buf (Elt F) ((c : Thread nD τ).loc cc0_scratch0)) :
    (((c : Thread nD τ).loc cc0_scratch0) ↦{fullShare} f : sProp 𝕄) = bigSep Finset.univ fun b : Fin 4 => xbPts c b f :=
  Ring.pointsTo_blocks (ℓ := (c : Thread nD τ).loc cc0_scratch0) (fun b : Fin 4 => (blkR b).set) blk_disjoint
    (Finset.eq_univ_of_forall fun i => Finset.mem_biUnion.mpr (((blk_cover i).elim fun b h => ⟨b, Finset.mem_univ _, h⟩))) f
omit [FloatOps F] in
theorem ob_split (c : Dev nD) (f : Buf (Elt F) ((c : Thread nD τ).loc cc0_scratch1)) :
    (((c : Thread nD τ).loc cc0_scratch1) ↦{fullShare} f : sProp 𝕄) = bigSep Finset.univ fun b : Fin 4 => obPts c b f :=
  Ring.pointsTo_blocks (ℓ := (c : Thread nD τ).loc cc0_scratch1) (fun b : Fin 4 => (blkR b).set) blk_disjoint
    (Finset.eq_univ_of_forall fun i => Finset.mem_biUnion.mpr (((blk_cover i).elim fun b h => ⟨b, Finset.mem_univ _, h⟩))) f
omit [FloatOps F] in
theorem cm_split (c : Dev nD) (f : Buf (Elt F) ((c : Thread nD τ).loc cc0_scratch2)) :
    (((c : Thread nD τ).loc cc0_scratch2) ↦{fullShare} f : sProp 𝕄) = bigSep Finset.univ fun p : Fin 4 × Dev nD => cmPts c p.1 p.2 fullShare f :=
  Ring.pointsTo_blocks (ℓ := (c : Thread nD τ).loc cc0_scratch2) (fun p : Fin 4 × Dev nD => (slotR p.1 p.2).set) slot_disjoint
    (Finset.eq_univ_of_forall fun i => Finset.mem_biUnion.mpr ((slot_cover i).elim fun p h => ⟨p, Finset.mem_univ _, h⟩)) f
omit [FloatOps F] in
/-- All slots of a row block at one share are what the kernel's load of the row block reads. -/
theorem tot_join (c : Dev nD) (b : Fin 4) (q : PosShare TreeShare) (f : Buf (Elt F) ((c : Thread nD τ).loc cc0_scratch2)) :
    (((c : Thread nD τ).loc cc0_scratch2) ↦[(totR b).set]{q} f : sProp 𝕄) = bigSep Finset.univ fun j : Dev nD => cmPts c b j q f := by
  have h : (_ : sProp 𝕄) = _ := pointsTo_biUnion (ℓ := (c : Thread nD τ).loc cc0_scratch2) (q := q) (f := f) Finset.univ (fun j : Dev nD => (slotR b j).set)
    (fun j _ j' _ h => slot_disjoint (b, j) (b, j') fun e => h (congrArg Prod.snd e))
  rw [← h]
  congr 1
  exact Finset.ext fun i => (tot_mem b i).trans
    ⟨fun ⟨j, hj⟩ => Finset.mem_biUnion.mpr ⟨j, Finset.mem_univ _, hj⟩, fun hi => (Finset.mem_biUnion.mp hi).elim fun j hj => ⟨j, hj.2⟩⟩

end Cert.KernelIdealProof

end
-- ==== Proof.Steps.lean ====
/-
  One rule per kind of memory operation of the kernel, at the protocol's cells: a copy sent for, a wait, and one
  trip of each kind of loop (signals, sends, arrivals awaited, sends awaited), each with its loop's invariant.
-/
module

public import proofs.«01_k».proof.Proof.Views

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

section Steps

variable (X : Dev nD → (main_arg0 : Ref sig .tc).ty.Contents (Elt F)) (G : Dev nD → (cc0_stg0_0 : Ref sig .tc).ty.Contents (Elt F))

/-! ## The cells, and what every device knows of them -/

/-- A device's cells, by number: its barrier, then its copies' semaphores. -/
def csem (k : Fin 265) : SemLoc sig := if k.val = 0 then .reg barS else .dma k
def kcell (ck : Dev nD × Fin 265) : GSem nD τ sig := ((ck.1 : Thread nD τ), csem ck.2)

theorem kcell_bar (c : Dev nD) : kcell (c, 0) = barCell c := rfl
theorem kcell_dma (c : Dev nD) (k : Fin 265) (h : k.val ≠ 0) : kcell (c, k) = ((c : Thread nD τ), .dma k) := by
  unfold kcell csem; rw [if_neg h]

variable (K : Dev nD × Fin 265 → ℕ)

/-- What device `c` knows: every cell's invariant, round 0 of every barrier and of its own cells reached, and the levels. -/
def Ghost (c : Dev nD) : sProp 𝕄 :=
  iprop((bigSep Finset.univ fun ck => cellInv ER (sched X G) (K ck) (kcell ck)) ∗ (bigSep Finset.univ fun p : Dev nD => reached ER (barCell p) 0)
    ∗ (bigSep Finset.univ fun k : Fin 265 => reached ER (kcell (c, k)) 0) ∗ levAts L lv)

instance Ghost_persistent (c : Dev nD) : BI.Persistent (Ghost X G K c) := by unfold Ghost; infer_instance

theorem ghost_inv (c p : Dev nD) (k : Fin 265) : Ghost X G K c ⊢ cellInv ER (sched X G) (K (p, k)) (kcell (p, k)) := by
  unfold Ghost
  iintro ⟨#H, -⟩
  iapply (show (bigSep Finset.univ (fun ck : Dev nD × Fin 265 => cellInv ER (sched X G) (K ck) (kcell ck)) : sProp 𝕄) ⊢ _ from bigSep_elim (Finset.mem_univ (p, k))); iexact H

theorem ghost_bar (c p : Dev nD) : Ghost X G K c ⊢ iprop(cellInv ER (sched X G) (K (p, 0)) (barCell p) ∗ reached ER (barCell p) 0) := by
  iintro #H
  isplitr
  · iapply (ghost_inv X G K c p 0); iexact H
  · unfold Ghost
    icases H with ⟨-, #Hr, -⟩
    iapply (show (bigSep Finset.univ (fun p : Dev nD => reached ER (barCell p) 0) : sProp 𝕄) ⊢ _ from bigSep_elim (Finset.mem_univ p)); iexact Hr

theorem ghost_peer (c p : Dev nD) (k : Fin 265) (h : k.val ≠ 0) :
    Ghost X G K c ⊢ cellInv ER (sched X G) (K (p, k)) ((p : Thread nD τ), .dma k) := by
  rw [← kcell_dma p k h]; exact ghost_inv X G K c p k

theorem ghost_dma (c : Dev nD) (k : Fin 265) (h : k.val ≠ 0) :
    Ghost X G K c ⊢ iprop(cellInv ER (sched X G) (K (c, k)) ((c : Thread nD τ), .dma k) ∗ reached ER ((c : Thread nD τ), .dma k) 0) := by
  rw [← kcell_dma c k h]
  iintro #H
  isplitr
  · iapply (ghost_inv X G K c c k); iexact H
  · unfold Ghost
    icases H with ⟨-, -, #Hr, -⟩
    iapply (show (bigSep Finset.univ (fun k : Fin 265 => reached ER (kcell (c, k)) 0) : sProp 𝕄) ⊢ _ from bigSep_elim (Finset.mem_univ k)); iexact Hr

theorem ghost_lev (c : Dev nD) : Ghost X G K c ⊢ (levAts L lv : sProp 𝕄) := by
  unfold Ghost
  iintro ⟨-, -, -, #H⟩; iexact H

theorem inS_ne (b : Fin 4) : (inS b).val ≠ 0 := by show 1 + b.val ≠ 0; omega
theorem outS_ne (b : Fin 4) : (outS b).val ≠ 0 := by show 5 + b.val ≠ 0; omega
theorem sendS_ne (b : Fin 4) (t : Fin 31) : (sendS b t).val ≠ 0 := by show 9 + 32 * b.val + (t.val + 1) ≠ 0; omega
theorem recvS_ne (b : Fin 4) (j : Dev nD) : (recvS b j).val ≠ 0 := by show 137 + 32 * b.val + j.val ≠ 0; omega

/-! ## The copies in and out -/

/-- Row block `b` of `x` sent for: its slot of the row buffer and the block itself are lent to the copy. -/
theorem step_in (c : Dev nD) (b : Fin 4) {off : Fin 2 → ℕ} {inb : ∀ a, off a + S512x1024.size a ≤ S2048x1024.size a} (hoff : off = ![512 * b.val, 0])
    {off' : Fin 3 → ℕ} {inb' : ∀ a, off' a + S1x512x1024.size a ≤ S4x512x1024.size a} (hoff' : off' = ![b.val, 0, 0])
    {q : DmaSem sig} (hq : q = inS b) {hsrc : (rowM xM off inb).view.WordExact} {hdst : (blkM xbM off' inb').view.WordExact}
    {hsem : DmaTarget.Typed (nD := nD) (τ := τ) (p := .tc) .hbm (.dma q) (.here (blkM xbM off' inb'))}
    {α : Type} {Q : α → sProp 𝕄} {k : PUnit → Prog (TpuEff nD τ sig (Elt F) Λ₀ .tc) α} :
    iprop(Ghost X G K c ∗ xPts c b (X c) ∗ (∃ f, xbPts c b f) ∗ dutyTok ER (inCell c b) 0 0)
      ⊢ iprop((cred (tallyAt (inCell c b) () NX) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM xM off inb) (.here (blkM xbM off' inb')) (.dma q) hsrc hdst hsem) k) Q) := by
  subst hoff hoff' hq
  iintro ⟨#Hg, Hx, ⟨%f, Hb⟩, Ht⟩ Hk
  ihave #Hgc := (ghost_dma X G K c (inS b) (inS_ne b)) $$ Hg
  icases Hgc with ⟨#Hi, #Hr⟩
  iapply (Rounds.wp_copy_pointsTo 𝒱₀ ER (sched X G) (c : Thread nD τ) none (src := rowM xM ![512 * b.val, 0] inb) (dst := blkM xbM ![b.val, 0, 0] inb') (κ := K (c, inS b)) (r := 0) (d := 0) (q := fullShare) (fs := X c) (fd := f)
    (by rw [duties_in]; exact Finset.mem_singleton_self _) () NX rfl (amount_in X G c 0 b)
    (by
      rw [payload_in]; unfold inPay
      rw [xrow_set, xblk_set]
      exact sep_mono_left (Entails.of_eq (pointsTo_congr (by
        rw [← xblk_set]
        exact pointsTo_written (F := F) (blkM xbM ![b.val, 0, 0] inb').view (c : Thread nD τ) rfl _ f (xbF X c) (read_in X c b)))))) $$ [Hx Hb Ht]
  · isplitr; · iexact Hi
    isplitl [Hx]; · rw [xrow_set]; iexact Hx
    isplitl [Hb]; · rw [xblk_set]; iexact Hb
    isplitl [Ht]; · iexact Ht
    iexact Hr
  iexact Hk

/-- Row block `b` of the result sent off. -/
theorem step_out (c : Dev nD) (b : Fin 4) {off : Fin 2 → ℕ} {inb : ∀ a, off a + S512x1024.size a ≤ S2048x1024.size a} (hoff : off = ![512 * b.val, 0])
    {off' : Fin 3 → ℕ} {inb' : ∀ a, off' a + S1x512x1024.size a ≤ S4x512x1024.size a} (hoff' : off' = ![b.val, 0, 0])
    {q : DmaSem sig} (hq : q = outS b) {hdst : (rowM yM off inb).view.WordExact} {hsrc : (blkM obM off' inb').view.WordExact}
    {hsem : DmaTarget.Typed (nD := nD) (τ := τ) (p := .tc) .vmem (.dma q) (.here (rowM yM off inb))}
    {α : Type} {Q : α → sProp 𝕄} {k : PUnit → Prog (TpuEff nD τ sig (Elt F) Λ₀ .tc) α} :
    iprop(Ghost X G K c ∗ obPts c b (obF X G c) ∗ (∃ f, yPts c b f) ∗ dutyTok ER (outCell c b) 0 0)
      ⊢ iprop((cred (tallyAt (outCell c b) () NX) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkM obM off' inb') (.here (rowM yM off inb)) (.dma q) hsrc hdst hsem) k) Q) := by
  subst hoff hoff' hq
  iintro ⟨#Hg, Hx, ⟨%f, Hb⟩, Ht⟩ Hk
  ihave #Hgc := (ghost_dma X G K c (outS b) (outS_ne b)) $$ Hg
  icases Hgc with ⟨#Hi, #Hr⟩
  iapply (Rounds.wp_copy_pointsTo 𝒱₀ ER (sched X G) (c : Thread nD τ) none (src := blkM obM ![b.val, 0, 0] inb') (dst := rowM yM ![512 * b.val, 0] inb) (κ := K (c, outS b)) (r := 0) (d := 0) (q := fullShare) (fs := obF X G c) (fd := f)
    (by rw [duties_out]; exact Finset.mem_singleton_self _) () NX rfl (amount_out X G c 0 b)
    (by
      rw [payload_out]; unfold outPay
      rw [yrow_set, oblk_set]
      exact sep_mono_left (Entails.of_eq (pointsTo_congr (by
        rw [← yrow_set]
        exact pointsTo_written (F := F) (rowM yM ![512 * b.val, 0] inb).view (c : Thread nD τ) rfl _ f (yF X G c) (read_out X G c b)))))) $$ [Hx Hb Ht]
  · isplitr; · iexact Hi
    isplitl [Hx]; · rw [oblk_set]; iexact Hx
    isplitl [Hb]; · rw [yrow_set]; iexact Hb
    isplitl [Ht]; · iexact Ht
    iexact Hr
  iexact Hk

/-! ## Waits -/

/-- A wait for the whole of round 0 of one of the device's own cells. -/
theorem step_wait (c : Dev nD) (k₀ : Fin 265) (h0 : k₀.val ≠ 0) {w : TpuEff nD τ sig (Elt F) Λ₀ .tc PUnit} (N : ℕ)
    (hw : ∀ J : PUnit → sProp 𝕄, wpE (defs₀ (F := F)) 𝒱₀ (c : Thread nD τ) none Set.univ w J = waitSpec (c : Thread nD τ) Set.univ (.dma k₀) N J)
    (hN : (sched X G).expect ((c : Thread nD τ), .dma k₀) 0 = N) (P : sProp 𝕄)
    (hP : bigSep ((sched X G).duties ((c : Thread nD τ), .dma k₀) 0 \ ∅) (fun d => (sched X G).payload ((c : Thread nD τ), .dma k₀) 0 d) = P)
    (O : CellTallies nD τ sig Unit) (hO : (levAts L lv : sProp 𝕄) ⊢ MayWait (c : Thread nD τ) (.dma k₀) () O)
    {α : Type} {Q : α → sProp 𝕄} {k : PUnit → Prog (TpuEff nD τ sig (Elt F) Λ₀ .tc) α} :
    iprop(Ghost X G K c ∗ cred (tallyAt ((c : Thread nD τ), .dma k₀) () N) ∗ (∃ W, owes (c : Thread nD τ) O W) ∗ atPos ER ((c : Thread nD τ), .dma k₀) 0 ∅ 0)
      ⊢ iprop((P ∗ (∃ W, owes (c : Thread nD τ) O W) ∗ atPos ER ((c : Thread nD τ), .dma k₀) 1 ∅ 0
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hg, Hc, ⟨%W, HO⟩, Hat⟩ Hk
  ihave #Hgc := (ghost_dma X G K c k₀ h0) $$ Hg
  icases Hgc with ⟨#Hi, -⟩
  iapply (Rounds.wp_wait_rest_token 𝒱₀ ER (sched X G) (c : Thread nD τ) none (κ := K (c, k₀)) hw (Set.mem_univ _) () (O := O) (W := W) (R := 0) (m := 0) (T := ∅)
      (by rw [Nat.zero_add, hN])) $$ [Hc HO Hat]
  · isplitr; · iexact Hi
    isplitl [Hc]; · iexact Hc
    isplitl [HO]; · iexact HO
    isplitr
    · iapply hO; iapply (ghost_lev X G K c); iexact Hg
    iexact Hat
  iintro ⟨HO, Hat, -, Hpay⟩
  iapply Hk
  isplitl [Hpay]; · iapply (Entails.of_eq hP); iexact Hpay
  isplitl [HO]; · iexists _; iexact HO
  iexact Hat

/-! ## The signals -/

/-- Before trip `n` of the signalling loop: the rest of the peers' duties and of the slots to lend. -/
def SigInv (c : Dev nD) (n : ℕ) : sProp 𝕄 :=
  iprop(Ghost X G K c ∗ (bigSep (Ring.rangeSet 31 n 31) fun t => iprop(dutyTok ER (barCell (peer c t)) 0 c ∗ barPay (peer c t) c))
    ∗ ∃ W, owes (c : Thread nD τ) (owe1 c + oweBar c n) W)

theorem step_signal (c : Dev nD) (t : Fin 31) {n : Dev nD} (hn : n = peer c t) :
    SigInv X G K c t.val ⊢ wp frame (wpE (defs₀ (F := F)) 𝒱₀ (c : Thread nD τ) none) Set.univ
      (do semSignalWord (n : Dev nD) barS 1#32; pure ⟨⟩) (fun _ : Unit => SigInv X G K c (t.val + 1)) := by
  subst hn
  simp only [semSignalWord, Prog.lift, Prog.bind_op, Prog.bind_ret, Prog.pure_eq_ret]
  unfold SigInv
  rw [Ring.bigSep_rangeSet_head t.isLt t.isLt, oweBar_step, ← add_assoc]
  iintro ⟨#Hg, ⟨⟨Ht, Hp⟩, Hrest⟩, ⟨%W, HO⟩⟩
  ihave #Hgc := (ghost_bar X G K c (peer c t)) $$ Hg
  icases Hgc with ⟨#Hi, #Hr⟩
  iapply (Rounds.wp_signal 𝒱₀ ER (sched X G) (c : Thread nD τ) none (dst := (peer c t : Thread nD τ)) (κ := K (peer c t, 0)) (r := 0) (d := c)
      (by rw [duties_bar]; exact Finset.mem_filter.mpr ⟨Finset.mem_univ _, (peer_ne c t).symm⟩)
      ((amount_bar X G (peer c t) c).trans (by decide)) () (owe1 c + oweBar c (t.val + 1)) rfl) $$ [HO Ht Hp]
  · isplitr; · iexact Hi
    isplitl [HO]; · iexact HO
    isplitl [Ht]; · iexact Ht
    isplitl [Hp]; · rw [payload_bar]; iexact Hp
    iexact Hr
  iintro HO
  rw [wp_ret]; imodintro
  isplitr; · iexact Hg
  isplitl [Hrest]; · iexact Hrest
  iexists W; iexact HO

/-! ## The sends -/

/-- What the sends of row block `b` still need on trip `t`, and what they leave. -/
abbrev sendNeed (c : Dev nD) (b : Fin 4) (t : Fin 31) : sProp 𝕄 :=
  iprop(dutyTok ER (sendCell c b t) 0 0 ∗ dutyTok ER (recvCell (peer c t) b c) 0 0 ∗ slotFor c b (peer c t))

def SendInv (c : Dev nD) (b : Fin 4) (O : CellTallies nD τ sig Unit) (n : ℕ) : sProp 𝕄 :=
  iprop(Ghost X G K c ∗ (bigSep (Ring.rangeSet 31 n 31) fun t => sendNeed c b t) ∗ cmPts c b c (kept n) (cmF X)
    ∗ (bigSep (Ring.rangeSet 31 0 n) fun t => cred (tallyAt (sendCell c b t) () NC)) ∗ ∃ W, owes (c : Thread nD τ) (O + oweRecv c b n) W)

theorem step_send (c : Dev nD) (b : Fin 4) (O : CellTallies nD τ sig Unit) (t : Fin 31) {n : Dev nD} (hn : n = peer c t)
    {off : Fin 4 → ℕ} {inb : ∀ a, off a + S1x1x4x128.size a ≤ S4x32x4x128.size a} (hoff : off = ![b.val, c.val, 0, 0])
    {qs qr : DmaSem sig} (hqs : qs = sendS b t) (hqr : qr = recvS b c)
    {hsc : (slotM off inb : Memref sig (Dev.tc n : Thread nD τ).2.kind .vmem S4x128 .f32).view.ref.isScScratch = false}
    {hsrc : (slotM off inb).view.WordExact} {hdst : (slotM off inb).view.WordExact}
    {hsem : DmaTarget.Typed .vmem (.dma qr) (.remote (Dev.tc n : Thread nD τ) (slotM off inb : Memref sig (Dev.tc n : Thread nD τ).2.kind .vmem S4x128 .f32) (.dma qs) hsc)} :
    SendInv X G K c b O t.val ⊢ wp frame (wpE (defs₀ (F := F)) 𝒱₀ (c : Thread nD τ) none) Set.univ
      (do Prog.lift (.enqueueDma (slotM off inb) (.remote (Dev.tc n : Thread nD τ) (slotM off inb) (.dma qs) hsc) (.dma qr) hsrc hdst hsem); pure ⟨⟩)
      (fun _ : Unit => SendInv X G K c b O (t.val + 1)) := by
  subst hn hoff hqs hqr
  simp only [Prog.lift, Prog.bind_op, Prog.bind_ret, Prog.pure_eq_ret]
  unfold SendInv
  rw [Ring.bigSep_rangeSet_head t.isLt t.isLt, oweRecv_step, ← add_assoc]
  iintro ⟨#Hg, ⟨⟨Hts, Htr, ⟨%f, Hd⟩, #Hr'⟩, Hrest⟩, Hs, Hcr, ⟨%W, HO⟩⟩
  ihave #Hgc := (ghost_dma X G K c (sendS b t) (sendS_ne b t)) $$ Hg
  icases Hgc with ⟨#Hi, #Hr⟩
  ihave #Hi' := (ghost_peer X G K c (peer c t) (recvS b c) (recvS_ne b c)) $$ Hg
  ihave Hs2 := (pointsTo_share (kept_split t.val)).1 $$ Hs
  icases Hs2 with ⟨Hs1, Hs2⟩
  iapply (Rounds.wp_send_pointsTo 𝒱₀ ER (sched X G) (c : Thread nD τ) none (c' := (peer c t : Thread nD τ)) (src := slotM ![b.val, c.val, 0, 0] inb) (dst := slotM ![b.val, c.val, 0, 0] inb) (sS := .dma (sendS b t)) (sem := .dma (recvS b c)) (κ₁ := K (c, sendS b t)) (κ₂ := K (peer c t, recvS b c))
    (r₁ := 0) (r₂ := 0) (d₁ := 0) (d₂ := 0) (q := lent t.val) (fs := cmF X) (fd := f)
    (by rw [duties_send]; exact Finset.mem_singleton_self _)
    (by rw [duties_recv X G _ b c (peer_ne c t).symm]; exact Finset.mem_singleton_self _)
    () () NC rfl (amount_send X G c 0 b t) (amount_recv X G (peer c t) 0 b c) (O + oweRecv c b (t.val + 1)) rfl (W := W)
    (by rw [payload_send]; unfold sendPay; rw [slotM_set])
    (by
      rw [payload_recv]; unfold recvPay
      rw [slotM_set]
      exact Entails.of_eq (pointsTo_congr (by
        rw [← slotM_set]
        exact pointsTo_written (F := F) (slotM ![b.val, c.val, 0, 0] inb).view (c : Thread nD τ) rfl _ f (cmF X) rfl)))) $$ [Hs1 Hd HO Hts Htr]
  · isplitr; · iexact Hi
    isplitr; · iexact Hi'
    isplitl [Hs1]; · rw [slotM_set]; iexact Hs1
    isplitl [Hd]; · rw [slotM_set]; iexact Hd
    isplitl [HO]; · iexact HO
    isplitl [Hts]; · iexact Hts
    isplitr; · iexact Hr
    isplitl [Htr]; · iexact Htr
    iexact Hr'
  iintro ⟨Hc, HO⟩
  rw [wp_ret]; imodintro
  isplitr; · iexact Hg
  isplitl [Hrest]; · iexact Hrest
  isplitl [Hs2]; · iexact Hs2
  isplitl [Hc Hcr]
  · rw [Ring.bigSep_rangeSet_last (lo := 0) (hi := t.val + 1) (Nat.succ_pos _) t.isLt]
    isplitl [Hc]; · iexact Hc
    iexact Hcr
  iexists W; iexact HO

/-! ## The arrivals awaited -/

abbrev recvNeed (c : Dev nD) (b : Fin 4) (t : Fin 31) : sProp 𝕄 :=
  iprop(atPos ER (recvCell c b (peer c t)) 0 ∅ 0 ∗ cred (tallyAt (recvCell c b (peer c t)) () NC))
abbrev recvDone (c : Dev nD) (b : Fin 4) (t : Fin 31) : sProp 𝕄 :=
  iprop(cmPts c b (peer c t) fullShare (cmF X) ∗ atPos ER (recvCell c b (peer c t)) 1 ∅ 0)

def RecvInv (c : Dev nD) (b : Fin 4) (n : ℕ) : sProp 𝕄 :=
  iprop(Ghost X G K c ∗ (bigSep (Ring.rangeSet 31 n 31) fun t => recvNeed c b t) ∗ (bigSep (Ring.rangeSet 31 0 n) fun t => recvDone X c b t)
    ∗ ∃ W, owes (c : Thread nD τ) 0 W)

theorem step_recv (c : Dev nD) (b : Fin 4) (t : Fin 31) {off : Fin 4 → ℕ} {inb : ∀ a, off a + S1x1x4x128.size a ≤ S4x32x4x128.size a}
    {M : Memref sig .tc .vmem S4x128 .f32} {q : DmaSem sig} (hq : q = recvS b (peer c t))
    {hsrc : M.view.WordExact} {hdst : (slotM off inb).view.WordExact} :
    RecvInv X G K c b t.val ⊢ wp frame (wpE (defs₀ (F := F)) 𝒱₀ (c : Thread nD τ) none) Set.univ
      (do Prog.lift (.waitDma2 q M (slotM off inb) hsrc hdst); pure ⟨⟩)
      (fun _ : Unit => RecvInv X G K c b (t.val + 1)) := by
  subst hq
  simp only [Prog.lift, Prog.bind_op, Prog.bind_ret, Prog.pure_eq_ret]
  unfold RecvInv
  rw [Ring.bigSep_rangeSet_head t.isLt t.isLt]
  iintro ⟨#Hg, ⟨⟨Hat, Hcr⟩, Hrest⟩, Hdone, HO⟩
  iapply (step_wait X G K c (recvS b (peer c t)) (recvS_ne b _) (w := .waitDma2 (recvS b (peer c t)) M (slotM off inb) hsrc hdst) NC (wpE_waitDma2_eq 𝒱₀ (c : Thread nD τ) none Set.univ)
    (expect_recv X G c b _ (peer_ne c t)) _ (rest_recv X G c b _ (peer_ne c t)) 0 (by rw [MayWait_zero]; iintro -; iempintro)) $$ [Hat Hcr HO]
  · isplitr; · iexact Hg
    isplitl [Hcr]; · iexact Hcr
    isplitl [HO]; · iexact HO
    iexact Hat
  iintro ⟨Hp, HO, Hat⟩
  rw [wp_ret]; imodintro
  isplitr; · iexact Hg
  isplitl [Hrest]; · iexact Hrest
  isplitl [Hp Hat Hdone]
  · rw [Ring.bigSep_rangeSet_last (lo := 0) (hi := t.val + 1) (Nat.succ_pos _) t.isLt]
    isplitl [Hp Hat]
    · isplitl [Hp]; · unfold recvPay; iexact Hp
      iexact Hat
    iexact Hdone
  iexact HO

/-! ## The sends awaited -/

abbrev sentNeed (c : Dev nD) (b : Fin 4) (t : Fin 31) : sProp 𝕄 :=
  iprop(atPos ER (sendCell c b t) 0 ∅ 0 ∗ cred (tallyAt (sendCell c b t) () NC))
abbrev sentDone (c : Dev nD) (b : Fin 4) (t : Fin 31) : sProp 𝕄 :=
  iprop(cmPts c b c (lent t.val) (cmF X) ∗ atPos ER (sendCell c b t) 1 ∅ 0)

def SentInv (c : Dev nD) (b : Fin 4) (n : ℕ) : sProp 𝕄 :=
  iprop(Ghost X G K c ∗ (bigSep (Ring.rangeSet 31 n 31) fun t => sentNeed c b t) ∗ (bigSep (Ring.rangeSet 31 0 n) fun t => sentDone X c b t)
    ∗ ∃ W, owes (c : Thread nD τ) 0 W)

theorem step_sent (c : Dev nD) (b : Fin 4) (t : Fin 31) {off : Fin 4 → ℕ} {inb : ∀ a, off a + S1x1x4x128.size a ≤ S4x32x4x128.size a}
    {M : Memref sig .tc .vmem S4x128 .f32} {q : DmaSem sig} (hq : q = sendS b t)
    {hsrc : M.view.WordExact} {hdst : (slotM off inb).view.WordExact} :
    SentInv X G K c b t.val ⊢ wp frame (wpE (defs₀ (F := F)) 𝒱₀ (c : Thread nD τ) none) Set.univ
      (do Prog.lift (.waitDma2 q M (slotM off inb) hsrc hdst); pure ⟨⟩)
      (fun _ : Unit => SentInv X G K c b (t.val + 1)) := by
  subst hq
  simp only [Prog.lift, Prog.bind_op, Prog.bind_ret, Prog.pure_eq_ret]
  unfold SentInv
  rw [Ring.bigSep_rangeSet_head t.isLt t.isLt]
  iintro ⟨#Hg, ⟨⟨Hat, Hcr⟩, Hrest⟩, Hdone, HO⟩
  iapply (step_wait X G K c (sendS b t) (sendS_ne b _) (w := .waitDma2 (sendS b t) M (slotM off inb) hsrc hdst) NC (wpE_waitDma2_eq 𝒱₀ (c : Thread nD τ) none Set.univ)
    (expect_send X G c b t) _ (rest_send X G c b t) 0 (by rw [MayWait_zero]; iintro -; iempintro)) $$ [Hat Hcr HO]
  · isplitr; · iexact Hg
    isplitl [Hcr]; · iexact Hcr
    isplitl [HO]; · iexact HO
    iexact Hat
  iintro ⟨Hp, HO, Hat⟩
  rw [wp_ret]; imodintro
  isplitr; · iexact Hg
  isplitl [Hrest]; · iexact Hrest
  isplitl [Hp Hat Hdone]
  · rw [Ring.bigSep_rangeSet_last (lo := 0) (hi := t.val + 1) (Nat.succ_pos _) t.isLt]
    isplitl [Hp Hat]
    · isplitl [Hp]; · unfold sendPay; iexact Hp
      iexact Hat
    iexact Hdone
  iexact HO

end Steps

end Cert.KernelIdealProof

end
-- ==== Proof.Phases.lean ====
/-
  The kernel's remaining waits, its loads and stores, and the rule for its loops, at the protocol's pieces.
-/
module

public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Phases

variable (X : Dev nD → (main_arg0 : Ref sig .tc).ty.Contents (Elt F)) (G : Dev nD → (cc0_stg0_0 : Ref sig .tc).ty.Contents (Elt F))
  (K : Dev nD × Fin 265 → ℕ)

/-! ## The remaining waits -/

theorem step_wait_in (c : Dev nD) (b : Fin 4) {off : Fin 3 → ℕ} {inb : ∀ a, off a + S1x512x1024.size a ≤ S4x512x1024.size a}
    {M : Memref sig .tc .hbm S512x1024 .f32} {q : DmaSem sig} (hq : q = inS b) {hsrc : M.view.WordExact} {hdst : (blkM xbM off inb).view.WordExact}
    (O : CellTallies nD τ sig Unit) (hO : OnlyRecv O) {α : Type} {Q : α → sProp 𝕄} {k : PUnit → Prog (TpuEff nD τ sig (Elt F) Λ₀ .tc) α} :
    iprop(Ghost X G K c ∗ cred (tallyAt (inCell c b) () NX) ∗ (∃ W, owes (c : Thread nD τ) O W) ∗ atPos ER (inCell c b) 0 ∅ 0)
      ⊢ iprop(((xbPts c b (xbF X c) ∗ xPts c b (X c)) ∗ (∃ W, owes (c : Thread nD τ) O W) ∗ atPos ER (inCell c b) 1 ∅ 0 -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q M (blkM xbM off inb) hsrc hdst) k) Q) := by
  subst hq
  exact step_wait X G K c (inS b) (inS_ne b) (w := .waitDma2 (inS b) M (blkM xbM off inb) hsrc hdst) NX
    (wpE_waitDma2_eq 𝒱₀ (c : Thread nD τ) none Set.univ) (expect_in X G c b) _ (rest_in X G c b) O (mayWait_recv c _ 0 (by decide) (lv_in c b) O hO)

theorem step_wait_out (c : Dev nD) (b : Fin 4) {off : Fin 2 → ℕ} {inb : ∀ a, off a + S512x1024.size a ≤ S2048x1024.size a}
    {M : Memref sig .tc .vmem S512x1024 .f32} {q : DmaSem sig} (hq : q = outS b) {hsrc : M.view.WordExact} {hdst : (rowM yM off inb).view.WordExact}
    {α : Type} {Q : α → sProp 𝕄} {k : PUnit → Prog (TpuEff nD τ sig (Elt F) Λ₀ .tc) α} :
    iprop(Ghost X G K c ∗ cred (tallyAt (outCell c b) () NX) ∗ (∃ W, owes (c : Thread nD τ) 0 W) ∗ atPos ER (outCell c b) 0 ∅ 0)
      ⊢ iprop(((yPts c b (yF X G c) ∗ obPts c b (obF X G c)) ∗ (∃ W, owes (c : Thread nD τ) 0 W) ∗ atPos ER (outCell c b) 1 ∅ 0 -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q M (rowM yM off inb) hsrc hdst) k) Q) := by
  subst hq
  exact step_wait X G K c (outS b) (outS_ne b) (w := .waitDma2 (outS b) M (rowM yM off inb) hsrc hdst) NX
    (wpE_waitDma2_eq 𝒱₀ (c : Thread nD τ) none Set.univ) (expect_out X G c b) _ (rest_out X G c b) 0 (by rw [MayWait_zero]; iintro -; iempintro)

theorem step_wait_bar (c : Dev nD) (N : ℤ) (hN : N = 31) (O : CellTallies nD τ sig Unit) (hO : OnlyRecv O) {α : Type} {Q : α → sProp 𝕄} {k : PUnit → Prog (TpuEff nD τ sig (Elt F) Λ₀ .tc) α} :
    iprop(Ghost X G K c ∗ cred (tallyAt (barCell c) () 31) ∗ (∃ W, owes (c : Thread nD τ) O W) ∗ atPos ER (barCell c) 0 ∅ 0)
      ⊢ iprop(((bigSep Finset.univ fun t : Fin 31 => barPay c (peer c t)) ∗ (∃ W, owes (c : Thread nD τ) O W) ∗ atPos ER (barCell c) 1 ∅ 0 -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS N) k) Q) := by
  subst hN
  iintro ⟨#Hg, Hc, ⟨%W, HO⟩, Hat⟩ Hk
  ihave #Hgc := (ghost_bar X G K c c) $$ Hg
  icases Hgc with ⟨#Hi, -⟩
  iapply (Rounds.wp_wait_rest_token 𝒱₀ ER (sched X G) (c : Thread nD τ) none (κ := K (c, 0)) (wpE_semWait_eq 𝒱₀ (c : Thread nD τ) none Set.univ)
      (Set.mem_univ _) () (O := O) (W := W) (R := 0) (m := 0) (T := ∅) (by rw [expect_bar])) $$ [Hc HO Hat]
  · isplitr; · iexact Hi
    isplitl [Hc]; · iexact Hc
    isplitl [HO]; · iexact HO
    isplitr
    · iapply (mayWait_recv c (.reg barS) 1 (by decide) (lv_bar c) O hO); iapply (ghost_lev X G K c); iexact Hg
    iexact Hat
  iintro ⟨HO, Hat, -, Hpay⟩
  iapply Hk
  isplitl [Hpay]; · iapply (Entails.of_eq (rest_bar X G c)); iexact Hpay
  isplitl [HO]; · iexists _; iexact HO
  iexact Hat

/-! ## Loads and stores -/

theorem step_ld_x (c : Dev nD) (b : Fin 4) {off : Fin 3 → ℕ} {inb : ∀ a, off a + S1x512x1024.size a ≤ S4x512x1024.size a} (hoff : off = ![b.val, 0, 0])
    {hl : xbM.view.LoadsAt (Rect.unit (s := S4x512x1024) off S1x512x1024.size inb).toLoadRect}
    {α : Type} {Q : α → sProp 𝕄} {k : Vec F S1x512x1024 .f32 → Prog (TpuEff nD τ sig (Elt F) Λ₀ .tc) α} :
    (xbPts c b (xbF X c)) ⊢ iprop((xbPts c b (xbF X c) -∗ wp frame (wpE (defs₀ (F := F)) 𝒱₀ (c : Thread nD τ) none) Set.univ (k (xblk X c b)) Q)
        -∗ wp frame (wpE (defs₀ (F := F)) 𝒱₀ (c : Thread nD τ) none) Set.univ (.op (.load xbM (Rect.unit (s := S4x512x1024) off S1x512x1024.size inb).toLoadRect hl) k) Q) := by
  subst hoff
  exact wp_load_rect 𝒱₀ (c : Thread nD τ) none Set.univ (m := xbM) (r := blkR b) (S := (blkR b).set) (f := xbF X c)
    (by rw [show (xbM.access (blkR b)).set = (blkR b).set from View.set_slice_whole _ _])

theorem step_ld_g (c : Dev nD) {hl : gM.view.LoadsAt (Rect.unit (s := S1x1024) ![0, 0] S1x1024.size inb_S1x1024_S1x1024_0_0).toLoadRect}
    {α : Type} {Q : α → sProp 𝕄} {k : Vec F S1x1024 .f32 → Prog (TpuEff nD τ sig (Elt F) Λ₀ .tc) α} :
    (((c : Thread nD τ).loc cc0_stg0_0) ↦{fullShare} (G c) : sProp 𝕄)
      ⊢ iprop(((((c : Thread nD τ).loc cc0_stg0_0) ↦{fullShare} (G c)) -∗ wp frame (wpE (defs₀ (F := F)) 𝒱₀ (c : Thread nD τ) none) Set.univ (k (gld G c)) Q)
        -∗ wp frame (wpE (defs₀ (F := F)) 𝒱₀ (c : Thread nD τ) none) Set.univ (.op (.load gM (Rect.unit (s := S1x1024) ![0, 0] S1x1024.size inb_S1x1024_S1x1024_0_0).toLoadRect hl) k) Q) :=
  wp_load 𝒱₀ (c : Thread nD τ) none Set.univ (m := gM) (Finset.subset_univ _)

theorem step_ld_cm (c : Dev nD) (b : Fin 4) {off : Fin 4 → ℕ} {inb : ∀ a, off a + S1x1x4x128.size a ≤ S4x32x4x128.size a} (hoff : off = ![b.val, c.val, 0, 0])
    {hl : cmM.view.LoadsAt (Rect.unit (s := S4x32x4x128) off S1x1x4x128.size inb).toLoadRect}
    {α : Type} {Q : α → sProp 𝕄} {k : Vec F S1x1x4x128 .f32 → Prog (TpuEff nD τ sig (Elt F) Λ₀ .tc) α} :
    iprop(∃ f, cmPts c b c fullShare f) ⊢ iprop((∀ v, (∃ f, cmPts c b c fullShare f) -∗ wp frame (wpE (defs₀ (F := F)) 𝒱₀ (c : Thread nD τ) none) Set.univ (k v) Q)
        -∗ wp frame (wpE (defs₀ (F := F)) 𝒱₀ (c : Thread nD τ) none) Set.univ (.op (.load cmM (Rect.unit (s := S4x32x4x128) off S1x1x4x128.size inb).toLoadRect hl) k) Q) := by
  subst hoff
  iintro ⟨%f, H⟩ Hk
  iapply (wp_load_rect 𝒱₀ (c : Thread nD τ) none Set.univ (m := cmM) (r := slotR b c) (S := (slotR b c).set) (f := f)
    (by rw [show (cmM.access (slotR b c)).set = (slotR b c).set from View.set_slice_whole _ _])) $$ H
  iintro H
  iapply Hk
  iexists f; iexact H

theorem step_st_cm (c : Dev nD) (b : Fin 4) {off : Fin 4 → ℕ} {inb : ∀ a, off a + S1x1x4x128.size a ≤ S4x32x4x128.size a} (hoff : off = ![b.val, c.val, 0, 0])
    {w : FVec F S1x1x4x128 .f32} (hw : w = part X c b)
    {hx : (cmM.access (Rect.unit (s := S4x32x4x128) off S1x1x4x128.size inb)).Stores Finset.univ}
    {hm : (Finset.univ : Finset (Rect.unit (s := S4x32x4x128) off S1x1x4x128.size inb).shape.Idx) = Finset.univ ∨ ∀ a, (Rect.unit (s := S4x32x4x128) off S1x1x4x128.size inb).stride a = 1}
    {α : Type} {Q : α → sProp 𝕄} {k : PUnit → Prog (TpuEff nD τ sig (Elt F) Λ₀ .tc) α} :
    iprop(∃ f, cmPts c b c fullShare f) ⊢ iprop((cmPts c b c (kept 0) (cmF X) -∗ wp frame (wpE (defs₀ (F := F)) 𝒱₀ (c : Thread nD τ) none) Set.univ (k ⟨⟩) Q)
        -∗ wp frame (wpE (defs₀ (F := F)) 𝒱₀ (c : Thread nD τ) none) Set.univ (.op (.store cmM (Rect.unit (s := S4x32x4x128) off S1x1x4x128.size inb) w Finset.univ hx hm) k) Q) := by
  subst hoff hw
  have hs : (cmM.access (slotR b c)).set = (slotR b c).set := View.set_slice_whole _ _
  iintro ⟨%f, H⟩ Hk
  iapply (wp_store 𝒱₀ (c : Thread nD τ) none Set.univ (m := cmM) (r := slotR b c) (S := (slotR b c).set) (Mk := Finset.univ) (w := part X c b) (f := f)
    (by rw [← hs]; exact subset_rfl)) $$ H
  iintro H
  iapply Hk
  ihave H' := (Entails.of_eq (pointsTo_congr (g := cmF X) (by
    rw [← hs]; exact pointsTo_written (F := F) (cmM.access (slotR b c)) (c : Thread nD τ) rfl _ f (cmF X) (read_cm X c b)))) $$ H
  iexact H'

theorem step_ld_ob (c : Dev nD) (b : Fin 4) {off : Fin 3 → ℕ} {inb : ∀ a, off a + S1x512x1024.size a ≤ S4x512x1024.size a} (hoff : off = ![b.val, 0, 0])
    {hl : obM.view.LoadsAt (Rect.unit (s := S4x512x1024) off S1x512x1024.size inb).toLoadRect}
    {α : Type} {Q : α → sProp 𝕄} {k : Vec F S1x512x1024 .f32 → Prog (TpuEff nD τ sig (Elt F) Λ₀ .tc) α} :
    iprop(∃ f, obPts c b f) ⊢ iprop((∀ v, (∃ f, obPts c b f) -∗ wp frame (wpE (defs₀ (F := F)) 𝒱₀ (c : Thread nD τ) none) Set.univ (k v) Q)
        -∗ wp frame (wpE (defs₀ (F := F)) 𝒱₀ (c : Thread nD τ) none) Set.univ (.op (.load obM (Rect.unit (s := S4x512x1024) off S1x512x1024.size inb).toLoadRect hl) k) Q) := by
  subst hoff
  iintro ⟨%f, H⟩ Hk
  iapply (wp_load_rect 𝒱₀ (c : Thread nD τ) none Set.univ (m := obM) (r := blkR b) (S := (blkR b).set) (f := f)
    (by rw [show (obM.access (blkR b)).set = (blkR b).set from View.set_slice_whole _ _])) $$ H
  iintro H
  iapply Hk
  iexists f; iexact H

theorem step_st_ob (c : Dev nD) (b : Fin 4) {off : Fin 3 → ℕ} {inb : ∀ a, off a + S1x512x1024.size a ≤ S4x512x1024.size a} (hoff : off = ![b.val, 0, 0])
    {w : FVec F S1x512x1024 .f32} (hw : w = oblk X G c b)
    {hx : (obM.access (Rect.unit (s := S4x512x1024) off S1x512x1024.size inb)).Stores Finset.univ}
    {hm : (Finset.univ : Finset (Rect.unit (s := S4x512x1024) off S1x512x1024.size inb).shape.Idx) = Finset.univ ∨ ∀ a, (Rect.unit (s := S4x512x1024) off S1x512x1024.size inb).stride a = 1}
    {α : Type} {Q : α → sProp 𝕄} {k : PUnit → Prog (TpuEff nD τ sig (Elt F) Λ₀ .tc) α} :
    iprop(∃ f, obPts c b f) ⊢ iprop((obPts c b (obF X G c) -∗ wp frame (wpE (defs₀ (F := F)) 𝒱₀ (c : Thread nD τ) none) Set.univ (k ⟨⟩) Q)
        -∗ wp frame (wpE (defs₀ (F := F)) 𝒱₀ (c : Thread nD τ) none) Set.univ (.op (.store obM (Rect.unit (s := S4x512x1024) off S1x512x1024.size inb) w Finset.univ hx hm) k) Q) := by
  subst hoff hw
  have hs : (obM.access (blkR b)).set = (blkR b).set := View.set_slice_whole _ _
  iintro ⟨%f, H⟩ Hk
  iapply (wp_store 𝒱₀ (c : Thread nD τ) none Set.univ (m := obM) (r := blkR b) (S := (blkR b).set) (Mk := Finset.univ) (w := oblk X G c b) (f := f)
    (by rw [← hs]; exact subset_rfl)) $$ H
  iintro H
  iapply Hk
  ihave H' := (Entails.of_eq (pointsTo_congr (g := obF X G c) (by
    rw [← hs]; exact pointsTo_written (F := F) (obM.access (blkR b)) (c : Thread nD τ) rfl _ f (obF X G c) (read_ob X G c b)))) $$ H
  iexact H'

/-! ## The load of a whole row block, its own slot partly lent -/

omit [FloatOps F] in
/-- A piece held outright gives its kept share, and gets it back. -/
theorem kept_of_full (c : Dev nD) (b : Fin 4) (j : Dev nD) (f : Buf (Elt F) ((c : Thread nD τ).loc cc0_scratch2)) (n : ℕ) :
    (cmPts c b j fullShare f : sProp 𝕄) ⊢ iprop(cmPts c b j (kept n) f ∗ (cmPts c b j (kept n) f -∗ cmPts c b j fullShare f)) := by
  induction n with
  | zero =>
    iintro H
    isplitl [H]; · iexact H
    iintro H; iexact H
  | succ n ih =>
    iintro H
    ihave H' := ih $$ H
    icases H' with ⟨H, Hw⟩
    ihave H2 := (pointsTo_share (kept_split n)).1 $$ H
    icases H2 with ⟨Hl, Hr⟩
    isplitl [Hr]; · iexact Hr
    iintro Hr
    iapply Hw
    iapply (pointsTo_share (kept_split n)).2
    isplitl [Hl]; · iexact Hl
    iexact Hr

omit [FloatOps F] in
/-- The lent shares and the kept one make the piece again. -/
theorem kept_join (c : Dev nD) (b : Fin 4) (j : Dev nD) (f : Buf (Elt F) ((c : Thread nD τ).loc cc0_scratch2)) (n : ℕ) (hn : n ≤ 31) :
    iprop(cmPts c b j (kept n) f ∗ bigSep (Ring.rangeSet 31 0 n) fun t => cmPts c b j (lent t.val) f) ⊢ (cmPts c b j fullShare f : sProp 𝕄) := by
  induction n with
  | zero => iintro ⟨H, -⟩; iexact H
  | succ n ih =>
    rw [Ring.bigSep_rangeSet_last (lo := 0) (hi := n + 1) (Nat.succ_pos _) hn]
    iintro ⟨H, Hl, Hr⟩
    iapply (ih (by omega))
    isplitl [H Hl]
    · iapply (pointsTo_share (kept_split n)).2
      isplitl [Hl]; · iexact Hl
      iexact H
    iexact Hr

omit [FloatOps F] in
theorem devs_split (c : Dev nD) (Φ : Dev nD → sProp 𝕄) :
    bigSep Finset.univ Φ = iprop(Φ c ∗ bigSep (Ring.rangeSet 31 0 31) fun t : Fin 31 => Φ (peer c t)) := by
  rw [Ring.rangeSet_univ, bigSep_univ_split c, show Finset.univ.erase c = Finset.univ.filter (· ≠ c) from by ext p; simp, others_eq, bigSep_map]
  rfl

theorem step_ld_tot (c : Dev nD) (b : Fin 4) {off : Fin 4 → ℕ} {inb : ∀ a, off a + S1x32x4x128.size a ≤ S4x32x4x128.size a} (hoff : off = ![b.val, 0, 0, 0])
    {hl : cmM.view.LoadsAt (Rect.unit (s := S4x32x4x128) off S1x32x4x128.size inb).toLoadRect}
    {α : Type} {Q : α → sProp 𝕄} {k : Vec F S1x32x4x128 .f32 → Prog (TpuEff nD τ sig (Elt F) Λ₀ .tc) α} :
    iprop(cmPts c b c (kept 31) (cmF X) ∗ bigSep (Ring.rangeSet 31 0 31) fun t => recvDone X c b t)
      ⊢ iprop((cmPts c b c (kept 31) (cmF X) ∗ (bigSep (Ring.rangeSet 31 0 31) fun t => recvDone X c b t) -∗ wp frame (wpE (defs₀ (F := F)) 𝒱₀ (c : Thread nD τ) none) Set.univ (k (tot X b)) Q)
        -∗ wp frame (wpE (defs₀ (F := F)) 𝒱₀ (c : Thread nD τ) none) Set.univ (.op (.load cmM (Rect.unit (s := S4x32x4x128) off S1x32x4x128.size inb).toLoadRect hl) k) Q) := by
  subst hoff
  have h1 : (bigSep (Ring.rangeSet 31 0 31) (fun t => recvDone X c b t) : sProp 𝕄)
      ⊢ iprop((bigSep (Ring.rangeSet 31 0 31) fun t => cmPts c b (peer c t) (kept 31) (cmF X))
        ∗ ((bigSep (Ring.rangeSet 31 0 31) fun t => cmPts c b (peer c t) (kept 31) (cmF X)) -∗ bigSep (Ring.rangeSet 31 0 31) fun t => recvDone X c b t)) := by
    have h2 : (bigSep (Ring.rangeSet 31 0 31) (fun t => recvDone X c b t) : sProp 𝕄)
        ⊢ bigSep (Ring.rangeSet 31 0 31) fun t => iprop(cmPts c b (peer c t) (kept 31) (cmF X) ∗ (cmPts c b (peer c t) (kept 31) (cmF X) -∗ recvDone X c b t)) := by
      have h : ∀ t : Fin 31, (recvDone X c b t : sProp 𝕄) ⊢ iprop(cmPts c b (peer c t) (kept 31) (cmF X) ∗ (cmPts c b (peer c t) (kept 31) (cmF X) -∗ recvDone X c b t)) := by
        intro t
        iintro ⟨H, Hat⟩
        ihave H' := (kept_of_full c b (peer c t) (cmF X) 31) $$ H
        icases H' with ⟨H, Hw⟩
        isplitl [H]; · iexact H
        iintro H
        isplitl [H Hw]; · iapply Hw; iexact H
        iexact Hat
      exact bigSep_mono fun t _ => h t
    iintro H
    ihave H := h2 $$ H
    ihave H := (Entails.of_eq (bigSep_sep' _ _ _)) $$ H
    icases H with ⟨H, Hw⟩
    isplitl [H]; · iexact H
    iintro H
    have h3 : (bigSep (Ring.rangeSet 31 0 31) fun t => iprop(cmPts c b (peer c t) (kept 31) (cmF X) ∗ (cmPts c b (peer c t) (kept 31) (cmF X) -∗ recvDone X c b t)) : sProp 𝕄)
        ⊢ bigSep (Ring.rangeSet 31 0 31) fun t => recvDone X c b t := by
      have h : ∀ t : Fin 31, (iprop(cmPts c b (peer c t) (kept 31) (cmF X) ∗ (cmPts c b (peer c t) (kept 31) (cmF X) -∗ recvDone X c b t)) : sProp 𝕄) ⊢ recvDone X c b t := by
        intro t; iintro ⟨H, Hw⟩; iapply Hw; iexact H
      exact bigSep_mono fun t _ => h t
    iapply h3
    iapply (Entails.of_eq (bigSep_sep' _ _ _).symm)
    isplitl [H]; · iexact H
    iexact Hw
  iintro ⟨Hown, Hd⟩ Hk
  ihave Hd := h1 $$ Hd
  icases Hd with ⟨Hd, Hw⟩
  ihave H := (Entails.of_eq ((tot_join c b (kept 31) (cmF X)).trans (devs_split c fun j => cmPts c b j (kept 31) (cmF X))).symm) $$ [Hown Hd]
  · isplitl [Hown]; · iexact Hown
    iexact Hd
  iapply (wp_load_rect 𝒱₀ (c : Thread nD τ) none Set.univ (m := cmM) (r := totR b) (S := (totR b).set) (f := cmF X)
    (by rw [show (cmM.access (totR b)).set = (totR b).set from View.set_slice_whole _ _])) $$ H
  iintro H
  ihave H := (Entails.of_eq ((tot_join c b (kept 31) (cmF X)).trans (devs_split c fun j => cmPts c b j (kept 31) (cmF X)))) $$ H
  icases H with ⟨Hown, Hd⟩
  iapply Hk
  isplitl [Hown]; · iexact Hown
  iapply Hw; iexact Hd

/-! ## The loops -/

/-- A loop of 31 trips under an invariant that does not read its carry. -/
theorem loop31 (c : Dev nD) {w : ℕ} {lb ub st : BitVec w} (hok : Scf.OK lb ub st) (body : Fin (Scf.trips lb ub st) → Unit → Prog (TpuEff nD τ sig (Elt F) Λ₀ .tc) Unit)
    (I : ℕ → sProp 𝕄) (ht : Scf.trips lb ub st = 31)
    (hb : ∀ t : Fin (Scf.trips lb ub st), I t.val ⊢ wp frame (wpE (defs₀ (F := F)) 𝒱₀ (c : Thread nD τ) none) Set.univ (body t ()) (fun _ : Unit => I (t.val + 1)))
    {α : Type} {Q : α → sProp 𝕄} {k : Unit → Prog (TpuEff nD τ sig (Elt F) Λ₀ .tc) α} :
    I 0 ⊢ iprop((I 31 -∗ wp frame (wpE (defs₀ (F := F)) 𝒱₀ (c : Thread nD τ) none) Set.univ (k ()) Q) -∗ wp frame (wpE (defs₀ (F := F)) 𝒱₀ (c : Thread nD τ) none) Set.univ (Scf.for lb ub st hok () body >>= k) Q) := by
  iintro H Hk
  iapply (Scf.wp_for_bind frame (wpE (defs₀ (F := F)) 𝒱₀ (c : Thread nD τ) none) Set.univ lb ub st hok () body (fun n _ => I n) (fun t _ => hb t)) $$ H
  iintro %acc H
  rw [ht]
  iapply Hk; iexact H

end Phases

end Cert.KernelIdealProof

end
-- ==== Proof.Trips.lean ====
/-
  The kernel's loops from start to end, the states a row block goes through, and the two straight pieces of work
  on a row block: its partial sums into the device's own slot, and its result into the result buffer.
-/
module

public import proofs.«01_k».proof.Proof.Phases

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Trips

variable (X : Dev nD → (main_arg0 : Ref sig .tc).ty.Contents (Elt F)) (G : Dev nD → (cc0_stg0_0 : Ref sig .tc).ty.Contents (Elt F))
  (K : Dev nD × Fin 265 → ℕ)

/-! ## The four loops, from start to end -/

theorem loop_signal (c : Dev nD) {w : ℕ} {lb ub st : BitVec w} (hok : Scf.OK lb ub st)
    (body : Fin (Scf.trips lb ub st) → Unit → Prog (TpuEff nD τ sig (Elt F) Λ₀ .tc) Unit) (ht : Scf.trips lb ub st = 31)
    (hb : ∀ t : Fin (Scf.trips lb ub st), SigInv X G K c t.val ⊢ wp frame (wpE (defs₀ (F := F)) 𝒱₀ (c : Thread nD τ) none) Set.univ (body t ()) (fun _ : Unit => SigInv X G K c (t.val + 1)))
    {α : Type} {Q : α → sProp 𝕄} {k : Unit → Prog (TpuEff nD τ sig (Elt F) Λ₀ .tc) α} :
    iprop(Ghost X G K c ∗ (bigSep (Ring.rangeSet 31 0 31) fun t => iprop(dutyTok ER (barCell (peer c t)) 0 c ∗ barPay (peer c t) c))
        ∗ ∃ W, owes (c : Thread nD τ) (owe0 c) W)
      ⊢ iprop(((∃ W, owes (c : Thread nD τ) (owe1 c) W) -∗ wp frame (wpE (defs₀ (F := F)) 𝒱₀ (c : Thread nD τ) none) Set.univ (k ()) Q) -∗ wp frame (wpE (defs₀ (F := F)) 𝒱₀ (c : Thread nD τ) none) Set.univ (Scf.for lb ub st hok () body >>= k) Q) := by
  iintro H Hk
  ihave H := (show _ ⊢ SigInv X G K c 0 by unfold SigInv; exact .rfl) $$ H
  iapply (loop31 c hok body (SigInv X G K c) ht hb) $$ H
  unfold SigInv
  rw [oweBar_end, add_zero]
  iintro ⟨-, -, H⟩
  iapply Hk; iexact H

theorem loop_send (c : Dev nD) (b : Fin 4) (O : CellTallies nD τ sig Unit) {w : ℕ} {lb ub st : BitVec w} (hok : Scf.OK lb ub st)
    (body : Fin (Scf.trips lb ub st) → Unit → Prog (TpuEff nD τ sig (Elt F) Λ₀ .tc) Unit) (ht : Scf.trips lb ub st = 31)
    (hb : ∀ t : Fin (Scf.trips lb ub st), SendInv X G K c b O t.val ⊢ wp frame (wpE (defs₀ (F := F)) 𝒱₀ (c : Thread nD τ) none) Set.univ (body t ()) (fun _ : Unit => SendInv X G K c b O (t.val + 1)))
    {α : Type} {Q : α → sProp 𝕄} {k : Unit → Prog (TpuEff nD τ sig (Elt F) Λ₀ .tc) α} :
    iprop(Ghost X G K c ∗ (bigSep (Ring.rangeSet 31 0 31) fun t => sendNeed c b t) ∗ cmPts c b c (kept 0) (cmF X)
        ∗ ∃ W, owes (c : Thread nD τ) (O + oweRecv c b 0) W)
      ⊢ iprop((cmPts c b c (kept 31) (cmF X) ∗ (bigSep (Ring.rangeSet 31 0 31) fun t => cred (tallyAt (sendCell c b t) () NC))
            ∗ (∃ W, owes (c : Thread nD τ) O W) -∗ wp frame (wpE (defs₀ (F := F)) 𝒱₀ (c : Thread nD τ) none) Set.univ (k ()) Q) -∗ wp frame (wpE (defs₀ (F := F)) 𝒱₀ (c : Thread nD τ) none) Set.univ (Scf.for lb ub st hok () body >>= k) Q) := by
  iintro ⟨#Hg, H1, H2, H3⟩ Hk
  iapply (loop31 c hok body (SendInv X G K c b O) ht hb) $$ [H1 H2 H3]
  · unfold SendInv
    rw [Ring.rangeSet_empty (lo := 0) (hi := 0) le_rfl, bigSep_empty]
    isplitr; · iexact Hg
    isplitl [H1]; · iexact H1
    isplitl [H2]; · iexact H2
    isplitr; · iempintro
    iexact H3
  unfold SendInv
  rw [oweRecv_end, add_zero]
  iintro ⟨-, -, H1, H2, H3⟩
  iapply Hk
  isplitl [H1]; · iexact H1
  isplitl [H2]; · iexact H2
  iexact H3

theorem loop_recv (c : Dev nD) (b : Fin 4) {w : ℕ} {lb ub st : BitVec w} (hok : Scf.OK lb ub st)
    (body : Fin (Scf.trips lb ub st) → Unit → Prog (TpuEff nD τ sig (Elt F) Λ₀ .tc) Unit) (ht : Scf.trips lb ub st = 31)
    (hb : ∀ t : Fin (Scf.trips lb ub st), RecvInv X G K c b t.val ⊢ wp frame (wpE (defs₀ (F := F)) 𝒱₀ (c : Thread nD τ) none) Set.univ (body t ()) (fun _ : Unit => RecvInv X G K c b (t.val + 1)))
    {α : Type} {Q : α → sProp 𝕄} {k : Unit → Prog (TpuEff nD τ sig (Elt F) Λ₀ .tc) α} :
    iprop(Ghost X G K c ∗ (bigSep (Ring.rangeSet 31 0 31) fun t => recvNeed c b t) ∗ ∃ W, owes (c : Thread nD τ) 0 W)
      ⊢ iprop(((bigSep (Ring.rangeSet 31 0 31) fun t => recvDone X c b t) ∗ (∃ W, owes (c : Thread nD τ) 0 W) -∗ wp frame (wpE (defs₀ (F := F)) 𝒱₀ (c : Thread nD τ) none) Set.univ (k ()) Q)
        -∗ wp frame (wpE (defs₀ (F := F)) 𝒱₀ (c : Thread nD τ) none) Set.univ (Scf.for lb ub st hok () body >>= k) Q) := by
  iintro ⟨#Hg, H1, H2⟩ Hk
  iapply (loop31 c hok body (RecvInv X G K c b) ht hb) $$ [H1 H2]
  · unfold RecvInv
    rw [Ring.rangeSet_empty (lo := 0) (hi := 0) le_rfl, bigSep_empty]
    isplitr; · iexact Hg
    isplitl [H1]; · iexact H1
    isplitr; · iempintro
    iexact H2
  unfold RecvInv
  iintro ⟨-, -, H1, H2⟩
  iapply Hk
  isplitl [H1]; · iexact H1
  iexact H2

theorem loop_sent (c : Dev nD) (b : Fin 4) {w : ℕ} {lb ub st : BitVec w} (hok : Scf.OK lb ub st)
    (body : Fin (Scf.trips lb ub st) → Unit → Prog (TpuEff nD τ sig (Elt F) Λ₀ .tc) Unit) (ht : Scf.trips lb ub st = 31)
    (hb : ∀ t : Fin (Scf.trips lb ub st), SentInv X G K c b t.val ⊢ wp frame (wpE (defs₀ (F := F)) 𝒱₀ (c : Thread nD τ) none) Set.univ (body t ()) (fun _ : Unit => SentInv X G K c b (t.val + 1)))
    {α : Type} {Q : α → sProp 𝕄} {k : Unit → Prog (TpuEff nD τ sig (Elt F) Λ₀ .tc) α} :
    iprop(Ghost X G K c ∗ (bigSep (Ring.rangeSet 31 0 31) fun t => sentNeed c b t) ∗ ∃ W, owes (c : Thread nD τ) 0 W)
      ⊢ iprop(((bigSep (Ring.rangeSet 31 0 31) fun t => sentDone X c b t) ∗ (∃ W, owes (c : Thread nD τ) 0 W) -∗ wp frame (wpE (defs₀ (F := F)) 𝒱₀ (c : Thread nD τ) none) Set.univ (k ()) Q)
        -∗ wp frame (wpE (defs₀ (F := F)) 𝒱₀ (c : Thread nD τ) none) Set.univ (Scf.for lb ub st hok () body >>= k) Q) := by
  iintro ⟨#Hg, H1, H2⟩ Hk
  iapply (loop31 c hok body (SentInv X G K c b) ht hb) $$ [H1 H2]
  · unfold SentInv
    rw [Ring.rangeSet_empty (lo := 0) (hi := 0) le_rfl, bigSep_empty]
    isplitr; · iexact Hg
    isplitl [H1]; · iexact H1
    isplitr; · iempintro
    iexact H2
  unfold SentInv
  iintro ⟨-, -, H1, H2⟩
  iapply Hk
  isplitl [H1]; · iexact H1
  iexact H2

/-! ## What a row block needs, holds and leaves -/

/-- A row block of `x` to be fetched, -/
abbrev InA (c : Dev nD) (b : Fin 4) : sProp 𝕄 := iprop(xPts c b (X c) ∗ (∃ f, xbPts c b f) ∗ dutyTok ER (inCell c b) 0 0)
/-- one on its way (its credit beside the cell's position), -/
abbrev InB (c : Dev nD) (b : Fin 4) : sProp 𝕄 := iprop(cred (tallyAt (inCell c b) () NX) ∗ atPos ER (inCell c b) 0 ∅ 0)
/-- and one that has come. -/
abbrev InC (c : Dev nD) (b : Fin 4) : sProp 𝕄 := iprop(xbPts c b (xbF X c) ∗ xPts c b (X c) ∗ atPos ER (inCell c b) 1 ∅ 0)

/-- The tokens of a block's 31 sends, -/
abbrev SdT (c : Dev nD) (b : Fin 4) : sProp 𝕄 :=
  bigSep (Ring.rangeSet 31 0 31) fun t => iprop(dutyTok ER (sendCell c b t) 0 0 ∗ dutyTok ER (recvCell (peer c t) b c) 0 0)
/-- the slots they go to, -/
abbrev SdP (c : Dev nD) (b : Fin 4) : sProp 𝕄 := bigSep (Ring.rangeSet 31 0 31) fun t => slotFor c b (peer c t)
/-- and what is left when all are started. -/
abbrev SdC (c : Dev nD) (b : Fin 4) : sProp 𝕄 :=
  iprop(cmPts c b c (kept 31) (cmF X) ∗ bigSep (Ring.rangeSet 31 0 31) fun t => cred (tallyAt (sendCell c b t) () NC))
/-- A block's arrivals, awaited and come. -/
abbrev RvA (c : Dev nD) (b : Fin 4) : sProp 𝕄 := bigSep (Ring.rangeSet 31 0 31) fun t => recvNeed c b t
abbrev RvB (c : Dev nD) (b : Fin 4) : sProp 𝕄 := bigSep (Ring.rangeSet 31 0 31) fun t => recvDone X c b t
/-- A block's departures, awaited and over. -/
abbrev StA (c : Dev nD) (b : Fin 4) : sProp 𝕄 := bigSep (Ring.rangeSet 31 0 31) fun t => atPos ER (sendCell c b t) 0 ∅ 0
abbrev StB (c : Dev nD) (b : Fin 4) : sProp 𝕄 := bigSep (Ring.rangeSet 31 0 31) fun t => sentDone X c b t

/-- A row block of the result to be written out, -/
abbrev OtA (c : Dev nD) (b : Fin 4) : sProp 𝕄 := iprop((∃ f, obPts c b f) ∗ (∃ f, yPts c b f) ∗ dutyTok ER (outCell c b) 0 0)
/-- one on its way, -/
abbrev OtB (c : Dev nD) (b : Fin 4) : sProp 𝕄 := iprop(cred (tallyAt (outCell c b) () NX) ∗ atPos ER (outCell c b) 0 ∅ 0)
/-- and one that is written. -/
abbrev OtC (c : Dev nD) (b : Fin 4) : sProp 𝕄 := iprop(yPts c b (yF X G c) ∗ obPts c b (obF X G c) ∗ atPos ER (outCell c b) 1 ∅ 0)
/-- What the device owes. -/
abbrev Owe (c : Dev nD) (O : CellTallies nD τ sig Unit) : sProp 𝕄 := iprop(∃ W, owes (c : Thread nD τ) O W)

omit [FloatOps F] in
theorem sendNeed_intro (c : Dev nD) (b : Fin 4) : iprop(SdT (F := F) c b ∗ SdP c b) ⊢ (bigSep (Ring.rangeSet 31 0 31) fun t => sendNeed c b t : sProp 𝕄) := by
  have h : ∀ t : Fin 31, iprop(iprop(dutyTok ER (sendCell c b t) 0 0 ∗ dutyTok ER (recvCell (peer c t) b c) 0 0) ∗ slotFor c b (peer c t)) ⊢ (sendNeed c b t : sProp 𝕄) := by
    intro t; iintro ⟨⟨H1, H2⟩, H3⟩
    isplitl [H1]; · iexact H1
    isplitl [H2]; · iexact H2
    iexact H3
  exact (Entails.of_eq (bigSep_sep' _ _ _).symm).trans (bigSep_mono fun t _ => h t)

omit [FloatOps F] in
theorem sentNeed_intro (c : Dev nD) (b : Fin 4) :
    iprop(StA (F := F) c b ∗ bigSep (Ring.rangeSet 31 0 31) fun t => cred (tallyAt (sendCell c b t) () NC)) ⊢ (bigSep (Ring.rangeSet 31 0 31) fun t => sentNeed c b t : sProp 𝕄) :=
  Entails.of_eq (bigSep_sep' _ _ _).symm

omit [FloatOps F] in
/-- What the barrier gives, sorted by row block. -/
theorem barPay_sort (c : Dev nD) : (bigSep Finset.univ fun t : Fin 31 => barPay c (peer c t) : sProp 𝕄) ⊢ bigSep Finset.univ fun b : Fin 4 => SdP (F := F) c b := by
  unfold SdP
  rw [Ring.rangeSet_univ]
  exact Entails.of_eq (bigSep_univ_comm _)

/-! ## A block's local sums, and a block's result -/

/-- The wait for row block `b`, its load, and the store of its partial sums into the device's own slot. -/
theorem phase_fill (c : Dev nD) (b : Fin 4) (O : CellTallies nD τ sig Unit) (hO : OnlyRecv O)
    {o1 : Fin 3 → ℕ} {i1 : ∀ a, o1 a + S1x512x1024.size a ≤ S4x512x1024.size a} {M : Memref sig .tc .hbm S512x1024 .f32} {q : DmaSem sig} (hq : q = inS b)
    {hsrc : M.view.WordExact} {hdst : (blkM xbM o1 i1).view.WordExact}
    {o2 : Fin 3 → ℕ} {i2 : ∀ a, o2 a + S1x512x1024.size a ≤ S4x512x1024.size a} (h2 : o2 = ![b.val, 0, 0])
    {hl2 : xbM.view.LoadsAt (Rect.unit (s := S4x512x1024) o2 S1x512x1024.size i2).toLoadRect}
    {o3 : Fin 4 → ℕ} {i3 : ∀ a, o3 a + S1x1x4x128.size a ≤ S4x32x4x128.size a} (h3 : o3 = ![b.val, c.val, 0, 0])
    {hl3 : cmM.view.LoadsAt (Rect.unit (s := S4x32x4x128) o3 S1x1x4x128.size i3).toLoadRect}
    {w : Vec F S1x512x1024 .f32 → FVec F S1x1x4x128 .f32} (hw : w (xblk X c b) = part X c b)
    {hx : (cmM.access (Rect.unit (s := S4x32x4x128) o3 S1x1x4x128.size i3)).Stores Finset.univ}
    {hm : (Finset.univ : Finset (Rect.unit (s := S4x32x4x128) o3 S1x1x4x128.size i3).shape.Idx) = Finset.univ ∨ ∀ a, (Rect.unit (s := S4x32x4x128) o3 S1x1x4x128.size i3).stride a = 1}
    {α : Type} {Q : α → sProp 𝕄} {k : PUnit → Prog (TpuEff nD τ sig (Elt F) Λ₀ .tc) α} :
    iprop(Ghost X G K c ∗ InB c b ∗ Owe c O ∗ ∃ f, cmPts c b c fullShare f)
      ⊢ iprop((InC X c b ∗ Owe c O ∗ cmPts c b c (kept 0) (cmF X) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q M (blkM xbM o1 i1) hsrc hdst) fun _ =>
            .op (.load xbM (Rect.unit (s := S4x512x1024) o2 S1x512x1024.size i2).toLoadRect hl2) fun v =>
            .op (.load cmM (Rect.unit (s := S4x32x4x128) o3 S1x1x4x128.size i3).toLoadRect hl3) fun _ =>
            .op (.store cmM (Rect.unit (s := S4x32x4x128) o3 S1x1x4x128.size i3) (w v) Finset.univ hx hm) k) Q) := by
  iintro ⟨#Hg, ⟨Hc, Hat⟩, HO, Hcm⟩ Hk
  iapply (step_wait_in X G K c b hq O hO) $$ [Hc Hat HO]
  · iframe Hg Hc HO Hat
  iintro ⟨⟨Hxb, Hx⟩, HO, Hat⟩
  iapply (step_ld_x X c b h2) $$ Hxb
  iintro Hxb
  iapply (step_ld_cm c b h3) $$ Hcm
  iintro %_ Hcm
  iapply (step_st_cm X c b h3 hw) $$ Hcm
  iintro Hcm
  iapply Hk
  iframe Hxb Hx Hat HO Hcm

/-- The store of row block `b` of the result, before which the kernel reads what was there. -/
theorem phase_put (c : Dev nD) (b : Fin 4) {o : Fin 3 → ℕ} {i : ∀ a, o a + S1x512x1024.size a ≤ S4x512x1024.size a} (ho : o = ![b.val, 0, 0])
    {hl : obM.view.LoadsAt (Rect.unit (s := S4x512x1024) o S1x512x1024.size i).toLoadRect}
    {w : FVec F S1x512x1024 .f32} (hw : w = oblk X G c b)
    {hx : (obM.access (Rect.unit (s := S4x512x1024) o S1x512x1024.size i)).Stores Finset.univ}
    {hm : (Finset.univ : Finset (Rect.unit (s := S4x512x1024) o S1x512x1024.size i).shape.Idx) = Finset.univ ∨ ∀ a, (Rect.unit (s := S4x512x1024) o S1x512x1024.size i).stride a = 1}
    {α : Type} {Q : α → sProp 𝕄} {k : PUnit → Prog (TpuEff nD τ sig (Elt F) Λ₀ .tc) α} :
    iprop(∃ f, obPts c b f) ⊢ iprop((obPts c b (obF X G c) -∗ wp frame (wpE (defs₀ (F := F)) 𝒱₀ (c : Thread nD τ) none) Set.univ (k ⟨⟩) Q)
        -∗ wp frame (wpE (defs₀ (F := F)) 𝒱₀ (c : Thread nD τ) none) Set.univ (.op (.load obM (Rect.unit (s := S4x512x1024) o S1x512x1024.size i).toLoadRect hl) fun _ =>
            .op (.store obM (Rect.unit (s := S4x512x1024) o S1x512x1024.size i) w Finset.univ hx hm) k) Q) := by
  iintro Ho Hk
  iapply (step_ld_ob c b ho) $$ Ho
  iintro %_ Ho
  iapply (step_st_ob X G c b ho hw) $$ Ho
  iexact Hk

end Trips

end Cert.KernelIdealProof

end
-- ==== Proof.Parts.lean ====
/-
  What each stretch of the kernel's body needs and what it leaves.
-/
module

public import proofs.«01_k».proof.Proof.Trips

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Body

variable (X : Dev nD → (main_arg0 : Ref sig .tc).ty.Contents (Elt F)) (G : Dev nD → (cc0_stg0_0 : Ref sig .tc).ty.Contents (Elt F))
  (K : Dev nD × Fin 265 → ℕ)
  (h0 : xM.IsWhole) (h1 : gM.IsWhole) (h2 : yM.IsWhole) (h3 : xbM.IsWhole) (h4 : obM.IsWhole) (h5 : cmM.IsWhole)

/-- The barrier semaphore and the device's position word, as the kernel binds them. -/
abbrev barArr : Sems sig S_ := SemArray.scalar (sig.barrier 0 rfl)
abbrev posW (c : Dev nD) : BitVec 32 := Scalar.remsi (Scalar.divsi (Dev.word c) 1#32) 32#32

omit [FloatOps F] in
theorem bigSep_fin4 (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide) Φ]
  rfl

theorem part1 (c : Dev nD) {Q : (Σ' (d0 : Dev nD) (v2 : BitVec 32), Sems sig S_) → sProp 𝕄} :
    iprop(Ghost X G K c ∗ (bigSep (Ring.rangeSet 31 0 31) fun t => iprop(dutyTok ER (barCell (peer c t)) 0 c ∗ barPay (peer c t) c))
        ∗ Owe c (owe0 c) ∗ InA X c 0 ∗ InA X c 1 ∗ InA X c 2)
      ⊢ iprop((Owe c (owe1 c) ∗ cred (tallyAt (inCell c 0) () NX) ∗ cred (tallyAt (inCell c 1) () NX) ∗ cred (tallyAt (inCell c 2) () NX)
            -∗ Q ⟨c, posW c, barArr⟩)
        -∗ wp frame (wpE (defs₀ (F := F)) 𝒱₀ (c : Thread nD τ) none) Set.univ (k0_part1 xM h0 gM h1 yM h2 xbM h3 obM h4 cmM h5 cc0_scratch3 cc0_scratch4 cc0_scratch5 cc0_scratch6) Q) := by
  rw [k0_part1_eq_skeleton]; unfold k0_part1_skel
  simp only [Prog.lift, Prog.bind_op, Prog.bind_ret, Prog.pure_eq_ret, wp_deviceId]
  iintro ⟨#Hg, Hs, HO, H0, H1, H2⟩ Hk
  iapply (loop_signal X G K c k0_t1_ok _ (by decide) (fun t => step_signal X G K c ⟨t.val, t.isLt⟩ (Fin.ext (k0_dev1_eq c t)))) $$ [Hs HO]
  · iframe Hg Hs HO
  iintro HO
  iapply (step_in X G K c 0 rfl rfl rfl) $$ [H0]
  · iframe Hg H0
  iintro H0
  iapply (step_in X G K c 1 rfl rfl rfl) $$ [H1]
  · iframe Hg H1
  iintro H1
  iapply (step_in X G K c 2 rfl rfl rfl) $$ [H2]
  · iframe Hg H2
  iintro H2
  rw [wp_ret]
  imodintro
  iapply Hk
  iframe HO H0 H1 H2

theorem part2 (c : Dev nD) {Q : (Σ' (v53 : FVec F S512x4 .f32) (v54 : IVec S512x128 32) (v59 : IVec S512x128 32) (v68 : IVec S512x128 1), IVec S512x128 32) → sProp 𝕄} :
    iprop(Ghost X G K c ∗ InA X c 3)
      ⊢ iprop((cred (tallyAt (inCell c 3) () NX) -∗ Q ⟨k0_pay1 (F := F), iota .tc S512x128 32 [1] iota_S512x128_d1_w32, k0_pay2, k0_pay3, k0_pay4⟩)
        -∗ wp frame (wpE (defs₀ (F := F)) 𝒱₀ (c : Thread nD τ) none) Set.univ (k0_part2 xM h0 gM h1 yM h2 xbM h3 obM h4 cmM h5 cc0_scratch3 cc0_scratch4 cc0_scratch5 cc0_scratch6) Q) := by
  rw [k0_part2_eq_skeleton]; unfold k0_part2_skel
  simp only [Prog.lift, Prog.bind_op, Prog.bind_ret, Prog.pure_eq_ret, semWaitWord]
  iintro ⟨#Hg, H3⟩ Hk
  iapply (step_in X G K c 3 rfl rfl rfl) $$ [H3]
  · iframe Hg H3
  iintro H3
  rw [wp_ret]
  imodintro
  iapply Hk
  iframe H3

theorem part3 (c : Dev nD) (v2 : BitVec 32) (v54 v59 : IVec S512x128 32) (v68 : IVec S512x128 1) (v70 : IVec S512x128 32)
    {Q : (Σ' (v74 : FVec F S512x128 .f32) (v78 : FVec F S128x1024 .f32), FVec F S1024x1 .f32) → sProp 𝕄} :
    iprop(Ghost X G K c ∗ (((c : Thread nD τ).loc cc0_stg0_0) ↦{fullShare} (G c)) ∗ InB c 0 ∗ Owe c (owe1 c) ∗ (∃ f, cmPts c 0 c fullShare f)
        ∗ (cred (tallyAt (barCell c) () 31) ∗ atPos ER (barCell c) 0 ∅ 0) ∗ SdT c 0)
      ⊢ iprop(((((c : Thread nD τ).loc cc0_stg0_0) ↦{fullShare} (G c)) ∗ InC X c 0 ∗ Owe c (owe2 c) ∗ SdC X c 0 ∗ atPos ER (barCell c) 1 ∅ 0
              ∗ SdP c 1 ∗ SdP c 2 ∗ SdP c 3
            -∗ Q ⟨k0_pay5 (F := F) v54 v59 v68 v70, k0_pay6 (gld G c), k0_pay7⟩)
        -∗ wp frame (wpE (defs₀ (F := F)) 𝒱₀ (c : Thread nD τ) none) Set.univ (k0_part3 xM h0 gM h1 yM h2 xbM h3 obM h4 cmM h5 cc0_scratch3 cc0_scratch4 cc0_scratch5 cc0_scratch6 c v2 barArr v54 v59 v68 v70) Q) := by
  rw [k0_part3_eq_skeleton]; unfold k0_part3_skel
  simp only [Prog.lift, Prog.bind_op, Prog.bind_ret, Prog.pure_eq_ret, semWaitWord]
  iintro ⟨#Hg, HG, H0, HO, Hcm, ⟨Hcb, Hab⟩, Ht⟩ Hk
  iapply (step_ld_g G c) $$ HG
  iintro HG
  iapply (phase_fill X G K c 0 (owe1 c) (onlyRecv1 c) rfl rfl (k0_off1_eq c) (w := fun v => k0_pay8 v) rfl) $$ [H0 HO Hcm]
  · iframe Hg H0 HO Hcm
  iintro ⟨H0, HO, Hcm⟩
  iapply (step_wait_bar X G K c _ (by decide) (owe1 c) (onlyRecv1 c)) $$ [Hcb HO Hab]
  · iframe Hg Hcb HO Hab
  iintro ⟨Hp, HO, Hab⟩
  ihave Hp := (barPay_sort c) $$ Hp
  ihave Hp := (Entails.of_eq (bigSep_fin4 _)) $$ Hp
  icases Hp with ⟨Hp0, Hp1, Hp2, Hp3⟩
  ihave Hn := (sendNeed_intro c 0) $$ [Ht Hp0]
  · isplitl [Ht]; · iexact Ht
    iexact Hp0
  iapply (loop_send X G K c 0 (owe2 c) k0_t2_ok _ (by decide) (fun t => step_send X G K c 0 (owe2 c) ⟨t.val, t.isLt⟩ (Fin.ext (k0_dev2_eq c t)) (k0_off4_eq c) (semSend 0 ⟨t.val, t.isLt⟩ (k0_off2_eq t) _) (semRecv 0 c (k0_off3_eq c) _))) $$ [Hn Hcm HO]
  · isplitr; · iexact Hg
    isplitl [Hn]; · iexact Hn
    isplitl [Hcm]; · iexact Hcm
    iexact HO
  iintro ⟨Hcm, Hcr, HO⟩
  rw [wp_ret]
  imodintro
  iapply Hk
  iframe HG H0 HO Hcm Hcr Hab Hp1 Hp2 Hp3

theorem part4 (c : Dev nD) (v2 : BitVec 32) {Q : PUnit → sProp 𝕄} :
    iprop(Ghost X G K c ∗ Owe c (owe2 c) ∗ (InB c 1 ∗ (∃ f, cmPts c 1 c fullShare f) ∗ SdT c 1 ∗ SdP c 1)
        ∗ (InB c 2 ∗ (∃ f, cmPts c 2 c fullShare f) ∗ SdT c 2 ∗ SdP c 2))
      ⊢ iprop((Owe c (owe4 c) ∗ InC X c 1 ∗ SdC X c 1 ∗ InC X c 2 ∗ SdC X c 2 -∗ Q ⟨⟩)
        -∗ wp frame (wpE (defs₀ (F := F)) 𝒱₀ (c : Thread nD τ) none) Set.univ (k0_part4 xM h0 gM h1 yM h2 xbM h3 obM h4 cmM h5 cc0_scratch3 cc0_scratch4 cc0_scratch5 cc0_scratch6 c v2 (k0_pay7 (F := F))) Q) := by
  rw [k0_part4_eq_skeleton]; unfold k0_part4_skel
  simp only [Prog.lift, Prog.bind_op, Prog.bind_ret, Prog.pure_eq_ret, semWaitWord]
  iintro ⟨#Hg, HO, ⟨H1, Hm1, Ht1, Hp1⟩, ⟨H2, Hm2, Ht2, Hp2⟩⟩ Hk
  iapply (phase_fill X G K c 1 (owe2 c) (onlyRecv2 c) rfl rfl (k0_off5_eq c) (w := fun v => k0_pay9 k0_pay7 v) rfl) $$ [H1 HO Hm1]
  · iframe Hg H1 HO Hm1
  iintro ⟨H1, HO, Hm1⟩
  ihave Hn := (sendNeed_intro c 1) $$ [Ht1 Hp1]
  · isplitl [Ht1]; · iexact Ht1
    iexact Hp1
  iapply (loop_send X G K c 1 (owe3 c) k0_t3_ok _ (by decide) (fun t => step_send X G K c 1 (owe3 c) ⟨t.val, t.isLt⟩ (Fin.ext (k0_dev3_eq c t)) (k0_off8_eq c) (semSend 1 ⟨t.val, t.isLt⟩ (k0_off6_eq t) _) (semRecv 1 c (k0_off7_eq c) _))) $$ [Hn Hm1 HO]
  · isplitr; · iexact Hg
    isplitl [Hn]; · iexact Hn
    isplitl [Hm1]; · iexact Hm1
    iexact HO
  iintro ⟨Hm1, Hc1, HO⟩
  iapply (phase_fill X G K c 2 (owe3 c) (onlyRecv3 c) rfl rfl (k0_off9_eq c) (w := fun v => k0_pay10 k0_pay7 v) rfl) $$ [H2 HO Hm2]
  · iframe Hg H2 HO Hm2
  iintro ⟨H2, HO, Hm2⟩
  ihave Hn := (sendNeed_intro c 2) $$ [Ht2 Hp2]
  · isplitl [Ht2]; · iexact Ht2
    iexact Hp2
  iapply (loop_send X G K c 2 (owe4 c) k0_t4_ok _ (by decide) (fun t => step_send X G K c 2 (owe4 c) ⟨t.val, t.isLt⟩ (Fin.ext (k0_dev4_eq c t)) (k0_off12_eq c) (semSend 2 ⟨t.val, t.isLt⟩ (k0_off10_eq t) _) (semRecv 2 c (k0_off11_eq c) _))) $$ [Hn Hm2 HO]
  · isplitr; · iexact Hg
    isplitl [Hn]; · iexact Hn
    isplitl [Hm2]; · iexact Hm2
    iexact HO
  iintro ⟨Hm2, Hc2, HO⟩
  rw [wp_ret]
  imodintro
  iapply Hk
  iframe HO H1 Hm1 Hc1 H2 Hm2 Hc2

theorem part5 (c : Dev nD) (v2 : BitVec 32) {Q : (Σ' (v150 : FVec F S512x128 .f32), FVec F S512x1024 .f32) → sProp 𝕄} :
    iprop(Ghost X G K c ∗ Owe c (owe4 c) ∗ (InB c 3 ∗ (∃ f, cmPts c 3 c fullShare f) ∗ SdT c 3 ∗ SdP c 3) ∗ RvA c 0 ∗ cmPts c 0 c (kept 31) (cmF X))
      ⊢ iprop((Owe c 0 ∗ InC X c 3 ∗ SdC X c 3 ∗ RvB X c 0 ∗ cmPts c 0 c (kept 31) (cmF X)
            -∗ Q ⟨k0_pay12 k0_pay1 maskV (tot X 0), constant S512x1024 .f32 0x00000000#32⟩)
        -∗ wp frame (wpE (defs₀ (F := F)) 𝒱₀ (c : Thread nD τ) none) Set.univ (k0_part5 xM h0 gM h1 yM h2 xbM h3 obM h4 cmM h5 cc0_scratch3 cc0_scratch4 cc0_scratch5 cc0_scratch6 c v2 (k0_pay1 (F := F)) maskV k0_pay7) Q) := by
  rw [k0_part5_eq_skeleton]; unfold k0_part5_skel
  simp only [Prog.lift, Prog.bind_op, Prog.bind_ret, Prog.pure_eq_ret, semWaitWord]
  iintro ⟨#Hg, HO, ⟨H3, Hm3, Ht3, Hp3⟩, Hr, Hm0⟩ Hk
  ihave HO := (Entails.of_eq (congrArg (Owe c) (zero_add (owe4 c)).symm)) $$ HO
  iapply (phase_fill X G K c 3 (0 + owe4 c) ((zero_add (owe4 c)).symm ▸ onlyRecv4 c) rfl rfl (k0_off13_eq c) (w := fun v => k0_pay11 k0_pay7 v) rfl) $$ [H3 HO Hm3]
  · iframe Hg H3 HO Hm3
  iintro ⟨H3, HO, Hm3⟩
  ihave Hn := (sendNeed_intro c 3) $$ [Ht3 Hp3]
  · isplitl [Ht3]; · iexact Ht3
    iexact Hp3
  iapply (loop_send X G K c 3 0 k0_t5_ok _ (by decide) (fun t => step_send X G K c 3 0 ⟨t.val, t.isLt⟩ (Fin.ext (k0_dev5_eq c t)) (k0_off16_eq c) (semSend 3 ⟨t.val, t.isLt⟩ (k0_off14_eq t) _) (semRecv 3 c (k0_off15_eq c) _))) $$ [Hn Hm3 HO]
  · isplitr; · iexact Hg
    isplitl [Hn]; · iexact Hn
    isplitl [Hm3]; · iexact Hm3
    iexact HO
  iintro ⟨Hm3, Hc3, HO⟩
  iapply (loop_recv X G K c 0 k0_t6_ok _ (by decide) (fun t => step_recv X G K c 0 ⟨t.val, t.isLt⟩ (semRecv 0 (peer c ⟨t.val, t.isLt⟩) (k0_off17_eq c t) _))) $$ [Hr HO]
  · iframe Hg Hr HO
  iintro ⟨Hr, HO⟩
  iapply (step_ld_tot X c 0 rfl) $$ [Hm0 Hr]
  · isplitl [Hm0]; · iexact Hm0
    iexact Hr
  iintro ⟨Hm0, Hr⟩
  rw [wp_ret]
  imodintro
  iapply Hk
  iframe HO H3 Hm3 Hc3 Hr Hm0

theorem part6 (c : Dev nD) (v2 : BitVec 32) {Q : FVec F S512x1024 .f32 → sProp 𝕄} :
    iprop(Ghost X G K c ∗ Owe c 0 ∗ xbPts c 0 (xbF X c) ∗ OtA c 0 ∗ RvA c 1 ∗ cmPts c 1 c (kept 31) (cmF X) ∗ xbPts c 1 (xbF X c))
      ⊢ iprop((Owe c 0 ∗ xbPts c 0 (xbF X c) ∗ cred (tallyAt (outCell c 0) () NX) ∗ RvB X c 1 ∗ cmPts c 1 c (kept 31) (cmF X) ∗ xbPts c 1 (xbF X c)
            -∗ Q (k0_pay14 k0_pay1 maskV (k0_pay6 (gld G c)) (tot X 1) (xblk X c 1)))
        -∗ wp frame (wpE (defs₀ (F := F)) 𝒱₀ (c : Thread nD τ) none) Set.univ (k0_part6 xM h0 gM h1 yM h2 xbM h3 obM h4 cmM h5 cc0_scratch3 cc0_scratch4 cc0_scratch5 cc0_scratch6 c v2 (k0_pay1 (F := F)) maskV (k0_pay6 (gld G c)) (k0_pay12 k0_pay1 maskV (tot X 0)) (constant S512x1024 .f32 0x00000000#32)) Q) := by
  rw [k0_part6_eq_skeleton]; unfold k0_part6_skel
  simp only [Prog.lift, Prog.bind_op, Prog.bind_ret, Prog.pure_eq_ret, semWaitWord]
  iintro ⟨#Hg, HO, Hx0, ⟨Ho, Hy⟩, Hr, Hm, Hx1⟩ Hk
  iapply (step_ld_x X c 0 rfl) $$ Hx0
  iintro Hx0
  iapply (phase_put X G c 0 rfl rfl) $$ Ho
  iintro Ho
  iapply (step_out X G K c 0 rfl rfl rfl) $$ [Ho Hy]
  · iframe Hg Ho Hy
  iintro Ho
  iapply (loop_recv X G K c 1 k0_t7_ok _ (by decide) (fun t => step_recv X G K c 1 ⟨t.val, t.isLt⟩ (semRecv 1 (peer c ⟨t.val, t.isLt⟩) (k0_off19_eq c t) _))) $$ [Hr HO]
  · iframe Hg Hr HO
  iintro ⟨Hr, HO⟩
  iapply (step_ld_tot X c 1 rfl) $$ [Hm Hr]
  · isplitl [Hm]; · iexact Hm
    iexact Hr
  iintro ⟨Hm, Hr⟩
  iapply (step_ld_x X c 1 rfl) $$ Hx1
  iintro Hx1
  rw [wp_ret]
  imodintro
  iapply Hk
  iframe HO Hx0 Ho Hr Hm Hx1

theorem part7 (c : Dev nD) (v2 : BitVec 32) {Q : PUnit → sProp 𝕄} :
    iprop(Ghost X G K c ∗ Owe c 0 ∗ OtA c 1 ∗ RvA c 2 ∗ cmPts c 2 c (kept 31) (cmF X) ∗ xbPts c 2 (xbF X c) ∗ (∃ f, obPts c 2 f))
      ⊢ iprop((Owe c 0 ∗ cred (tallyAt (outCell c 1) () NX) ∗ RvB X c 2 ∗ cmPts c 2 c (kept 31) (cmF X) ∗ xbPts c 2 (xbF X c) ∗ obPts c 2 (obF X G c)
            -∗ Q ⟨⟩)
        -∗ wp frame (wpE (defs₀ (F := F)) 𝒱₀ (c : Thread nD τ) none) Set.univ (k0_part7 xM h0 gM h1 yM h2 xbM h3 obM h4 cmM h5 cc0_scratch3 cc0_scratch4 cc0_scratch5 cc0_scratch6 c v2 (k0_pay1 (F := F)) maskV (k0_pay6 (gld G c)) (k0_pay14 k0_pay1 maskV (k0_pay6 (gld G c)) (tot X 1) (xblk X c 1))) Q) := by
  rw [k0_part7_eq_skeleton]; unfold k0_part7_skel
  simp only [Prog.lift, Prog.bind_op, Prog.bind_ret, Prog.pure_eq_ret, semWaitWord]
  iintro ⟨#Hg, HO, ⟨Ho, Hy⟩, Hr, Hm, Hx, Hw⟩ Hk
  iapply (phase_put X G c 1 rfl rfl) $$ Ho
  iintro Ho
  iapply (step_out X G K c 1 rfl rfl rfl) $$ [Ho Hy]
  · iframe Hg Ho Hy
  iintro Ho
  iapply (loop_recv X G K c 2 k0_t8_ok _ (by decide) (fun t => step_recv X G K c 2 ⟨t.val, t.isLt⟩ (semRecv 2 (peer c ⟨t.val, t.isLt⟩) (k0_off21_eq c t) _))) $$ [Hr HO]
  · iframe Hg Hr HO
  iintro ⟨Hr, HO⟩
  iapply (step_ld_tot X c 2 rfl) $$ [Hm Hr]
  · isplitl [Hm]; · iexact Hm
    iexact Hr
  iintro ⟨Hm, Hr⟩
  iapply (step_ld_x X c 2 rfl) $$ Hx
  iintro Hx
  iapply (phase_put X G c 2 rfl rfl) $$ Hw
  iintro Hw
  rw [wp_ret]
  imodintro
  iapply Hk
  iframe HO Ho Hr Hm Hx Hw

theorem part8 (c : Dev nD) (v2 : BitVec 32) {Q : PUnit → sProp 𝕄} :
    iprop(Ghost X G K c ∗ Owe c 0 ∗ (obPts c 2 (obF X G c) ∗ (∃ f, yPts c 2 f) ∗ dutyTok ER (outCell c 2) 0 0) ∗ RvA c 3 ∗ cmPts c 3 c (kept 31) (cmF X)
        ∗ xbPts c 3 (xbF X c) ∗ OtA c 3)
      ⊢ iprop((Owe c 0 ∗ cred (tallyAt (outCell c 2) () NX) ∗ RvB X c 3 ∗ cmPts c 3 c (kept 31) (cmF X) ∗ xbPts c 3 (xbF X c)
            ∗ cred (tallyAt (outCell c 3) () NX) -∗ Q ⟨⟩)
        -∗ wp frame (wpE (defs₀ (F := F)) 𝒱₀ (c : Thread nD τ) none) Set.univ (k0_part8 xM h0 gM h1 yM h2 xbM h3 obM h4 cmM h5 cc0_scratch3 cc0_scratch4 cc0_scratch5 cc0_scratch6 c v2 (k0_pay1 (F := F)) maskV (k0_pay6 (gld G c))) Q) := by
  rw [k0_part8_eq_skeleton]; unfold k0_part8_skel
  simp only [Prog.lift, Prog.bind_op, Prog.bind_ret, Prog.pure_eq_ret, semWaitWord]
  iintro ⟨#Hg, HO, Ho, Hr, Hm, Hx, ⟨Hw, Hy⟩⟩ Hk
  iapply (step_out X G K c 2 rfl rfl rfl) $$ [Ho]
  · iframe Hg Ho
  iintro Ho
  iapply (loop_recv X G K c 3 k0_t9_ok _ (by decide) (fun t => step_recv X G K c 3 ⟨t.val, t.isLt⟩ (semRecv 3 (peer c ⟨t.val, t.isLt⟩) (k0_off23_eq c t) _))) $$ [Hr HO]
  · iframe Hg Hr HO
  iintro ⟨Hr, HO⟩
  iapply (step_ld_tot X c 3 rfl) $$ [Hm Hr]
  · isplitl [Hm]; · iexact Hm
    iexact Hr
  iintro ⟨Hm, Hr⟩
  iapply (step_ld_x X c 3 rfl) $$ Hx
  iintro Hx
  iapply (phase_put X G c 3 rfl rfl) $$ Hw
  iintro Hw
  iapply (step_out X G K c 3 rfl rfl rfl) $$ [Hw Hy]
  · iframe Hg Hw Hy
  iintro Hw
  rw [wp_ret]
  imodintro
  iapply Hk
  iframe HO Ho Hr Hm Hx Hw

/-- A block's copy out and its departures, awaited. -/
abbrev Dr (c : Dev nD) (b : Fin 4) : sProp 𝕄 :=
  iprop(OtB c b ∗ StA c b ∗ bigSep (Ring.rangeSet 31 0 31) fun t => cred (tallyAt (sendCell c b t) () NC))

theorem part9 (c : Dev nD) (v2 : BitVec 32) {Q : PUnit → sProp 𝕄} :
    iprop(Ghost X G K c ∗ Owe c 0 ∗ Dr c 0 ∗ Dr c 1 ∗ Dr c 2)
      ⊢ iprop((Owe c 0 ∗ (OtC X G c 0 ∗ StB X c 0) ∗ (OtC X G c 1 ∗ StB X c 1) ∗ (OtC X G c 2 ∗ StB X c 2) -∗ Q ⟨⟩)
        -∗ wp frame (wpE (defs₀ (F := F)) 𝒱₀ (c : Thread nD τ) none) Set.univ (k0_part9 xM h0 gM h1 yM h2 xbM h3 obM h4 cmM h5 cc0_scratch3 cc0_scratch4 cc0_scratch5 cc0_scratch6 c v2) Q) := by
  rw [k0_part9_eq_skeleton]; unfold k0_part9_skel
  simp only [Prog.lift, Prog.bind_op, Prog.bind_ret, Prog.pure_eq_ret, semWaitWord]
  iintro ⟨#Hg, HO, ⟨⟨Ho0, Ha0⟩, Hs0⟩, ⟨⟨Ho1, Ha1⟩, Hs1⟩, ⟨⟨Ho2, Ha2⟩, Hs2⟩⟩ Hk
  iapply (step_wait_out X G K c 0 rfl) $$ [Ho0 Ha0 HO]
  · iframe Hg Ho0 HO Ha0
  iintro ⟨⟨Hy0, Ho0⟩, HO, Ha0⟩
  iapply (loop_sent X G K c 0 k0_t10_ok _ (by decide) (fun t => step_sent X G K c 0 ⟨t.val, t.isLt⟩ (semSend 0 ⟨t.val, t.isLt⟩ (k0_off25_eq t) _))) $$ [Hs0 HO]
  · isplitr; · iexact Hg
    isplitl [Hs0]; · iapply (sentNeed_intro c 0); iexact Hs0
    iexact HO
  iintro ⟨Hs0, HO⟩
  iapply (step_wait_out X G K c 1 rfl) $$ [Ho1 Ha1 HO]
  · iframe Hg Ho1 HO Ha1
  iintro ⟨⟨Hy1, Ho1⟩, HO, Ha1⟩
  iapply (loop_sent X G K c 1 k0_t11_ok _ (by decide) (fun t => step_sent X G K c 1 ⟨t.val, t.isLt⟩ (semSend 1 ⟨t.val, t.isLt⟩ (k0_off27_eq t) _))) $$ [Hs1 HO]
  · isplitr; · iexact Hg
    isplitl [Hs1]; · iapply (sentNeed_intro c 1); iexact Hs1
    iexact HO
  iintro ⟨Hs1, HO⟩
  iapply (step_wait_out X G K c 2 rfl) $$ [Ho2 Ha2 HO]
  · iframe Hg Ho2 HO Ha2
  iintro ⟨⟨Hy2, Ho2⟩, HO, Ha2⟩
  iapply (loop_sent X G K c 2 k0_t12_ok _ (by decide) (fun t => step_sent X G K c 2 ⟨t.val, t.isLt⟩ (semSend 2 ⟨t.val, t.isLt⟩ (k0_off29_eq t) _))) $$ [Hs2 HO]
  · isplitr; · iexact Hg
    isplitl [Hs2]; · iapply (sentNeed_intro c 2); iexact Hs2
    iexact HO
  iintro ⟨Hs2, HO⟩
  rw [wp_ret]
  imodintro
  iapply Hk
  iframe HO Hy0 Ho0 Ha0 Hs0 Hy1 Ho1 Ha1 Hs1 Hy2 Ho2 Ha2 Hs2

end Body

end Cert.KernelIdealProof

end
-- ==== Proof.Body.lean ====
/-
  The kernel's body, its stretches in turn.
-/
module

public import proofs.«01_k».proof.Proof.Parts

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Body

variable (X : Dev nD → (main_arg0 : Ref sig .tc).ty.Contents (Elt F)) (G : Dev nD → (cc0_stg0_0 : Ref sig .tc).ty.Contents (Elt F))
  (K : Dev nD × Fin 265 → ℕ)
  (h0 : xM.IsWhole) (h1 : gM.IsWhole) (h2 : yM.IsWhole) (h3 : xbM.IsWhole) (h4 : obM.IsWhole) (h5 : cmM.IsWhole)

/-- All a row block needs at the start, -/
abbrev BlkA (c : Dev nD) (b : Fin 4) : sProp 𝕄 :=
  iprop(InA X c b ∗ atPos ER (inCell c b) 0 ∅ 0 ∗ (∃ f, cmPts c b c fullShare f) ∗ SdT c b ∗ RvA c b ∗ StA c b ∗ OtA c b ∗ atPos ER (outCell c b) 0 ∅ 0)
/-- and all it leaves. -/
abbrev BlkZ (c : Dev nD) (b : Fin 4) : sProp 𝕄 :=
  iprop(InC X c b ∗ cmPts c b c (kept 31) (cmF X) ∗ RvB X c b ∗ StB X c b ∗ OtC X G c b)

theorem body_core (c : Dev nD) {Q : PUnit → sProp 𝕄} :
    iprop(Ghost X G K c ∗ (bigSep (Ring.rangeSet 31 0 31) fun t => iprop(dutyTok ER (barCell (peer c t)) 0 c ∗ barPay (peer c t) c))
        ∗ Owe c (owe0 c) ∗ (((c : Thread nD τ).loc cc0_stg0_0) ↦{fullShare} (G c)) ∗ (cred (tallyAt (barCell c) () 31) ∗ atPos ER (barCell c) 0 ∅ 0)
        ∗ BlkA X c 0 ∗ BlkA X c 1 ∗ BlkA X c 2 ∗ BlkA X c 3)
      ⊢ iprop(((((c : Thread nD τ).loc cc0_stg0_0) ↦{fullShare} (G c)) ∗ Owe c 0 ∗ atPos ER (barCell c) 1 ∅ 0
            ∗ BlkZ X G c 0 ∗ BlkZ X G c 1 ∗ BlkZ X G c 2 ∗ BlkZ X G c 3 -∗ Q ⟨⟩)
        -∗ wp frame (wpE (defs₀ (F := F)) 𝒱₀ (c : Thread nD τ) none) Set.univ (cc0_body xM h0 gM h1 yM h2 xbM h3 obM h4 cmM h5 cc0_scratch3 cc0_scratch4 cc0_scratch5 cc0_scratch6) Q) := by
  rw [cc0_body_eq_skeleton]; unfold cc0_body_skel
  iintro ⟨#Hg, Hs, HO, HG, Hb, ⟨Hi0, Hai0, Hm0, Ht0, Hr0, Hs0, ⟨Ho0, Hy0⟩, Hao0⟩, ⟨Hi1, Hai1, Hm1, Ht1, Hr1, Hs1, ⟨Ho1, Hy1⟩, Hao1⟩,
    ⟨Hi2, Hai2, Hm2, Ht2, Hr2, Hs2, ⟨Ho2, Hy2⟩, Hao2⟩, ⟨Hi3, Hai3, Hm3, Ht3, Hr3, Hs3, ⟨Ho3, Hy3⟩, Hao3⟩⟩ Hk
  rw [wp_bind]
  iapply (part1 X G K h0 h1 h2 h3 h4 h5 c) $$ [Hs HO Hi0 Hi1 Hi2]
  · iframe Hg Hs HO Hi0 Hi1 Hi2
  iintro ⟨HO, Hi0, Hi1, Hi2⟩
  simp only []
  rw [wp_bind]
  iapply (part2 X G K h0 h1 h2 h3 h4 h5 c) $$ [Hi3]
  · iframe Hg Hi3
  iintro Hi3
  rw [wp_bind]
  iapply (part3 X G K h0 h1 h2 h3 h4 h5 c (posW c) _ _ _ _) $$ [HG Hi0 Hai0 HO Hm0 Hb Ht0]
  · iframe Hg HG Hi0 Hai0 HO Hm0 Hb Ht0
  iintro ⟨HG, ⟨Hxb0, Hx0, Hai0⟩, HO, ⟨Hm0, Hc0⟩, Hb, Hp1, Hp2, Hp3⟩
  rw [wp_bind]
  iapply (part4 X G K h0 h1 h2 h3 h4 h5 c (posW c)) $$ [HO Hi1 Hai1 Hm1 Ht1 Hp1 Hi2 Hai2 Hm2 Ht2 Hp2]
  · iframe Hg HO Hi1 Hai1 Hm1 Ht1 Hp1 Hi2 Hai2 Hm2 Ht2 Hp2
  iintro ⟨HO, ⟨Hxb1, Hx1, Hai1⟩, ⟨Hm1, Hc1⟩, ⟨Hxb2, Hx2, Hai2⟩, ⟨Hm2, Hc2⟩⟩
  rw [wp_bind]
  iapply (part5 X G K h0 h1 h2 h3 h4 h5 c (posW c)) $$ [HO Hi3 Hai3 Hm3 Ht3 Hp3 Hr0 Hm0]
  · iframe Hg HO Hi3 Hai3 Hm3 Ht3 Hp3 Hr0 Hm0
  iintro ⟨HO, ⟨Hxb3, Hx3, Hai3⟩, ⟨Hm3, Hc3⟩, Hr0, Hm0⟩
  rw [wp_bind]
  iapply (part6 X G K h0 h1 h2 h3 h4 h5 c (posW c)) $$ [HO Hxb0 Ho0 Hy0 Hr1 Hm1 Hxb1]
  · iframe Hg HO Hxb0 Ho0 Hy0 Hr1 Hm1 Hxb1
  iintro ⟨HO, Hxb0, Ho0, Hr1, Hm1, Hxb1⟩
  rw [wp_bind]
  iapply (part7 X G K h0 h1 h2 h3 h4 h5 c (posW c)) $$ [HO Ho1 Hy1 Hr2 Hm2 Hxb2 Ho2]
  · iframe Hg HO Ho1 Hy1 Hr2 Hm2 Hxb2 Ho2
  iintro ⟨HO, Ho1, Hr2, Hm2, Hxb2, Ho2⟩
  rw [wp_bind]
  iapply (part8 X G K h0 h1 h2 h3 h4 h5 c (posW c)) $$ [HO Ho2 Hy2 Hr3 Hm3 Hxb3 Ho3 Hy3]
  · iframe Hg HO Ho2 Hy2 Hr3 Hm3 Hxb3 Ho3 Hy3
  iintro ⟨HO, Ho2, Hr3, Hm3, Hxb3, Ho3⟩
  rw [wp_bind]
  iapply (part9 X G K h0 h1 h2 h3 h4 h5 c (posW c)) $$ [HO Ho0 Hao0 Hs0 Hc0 Ho1 Hao1 Hs1 Hc1 Ho2 Hao2 Hs2 Hc2]
  · iframe Hg HO Ho0 Hao0 Hs0 Hc0 Ho1 Hao1 Hs1 Hc1 Ho2 Hao2 Hs2 Hc2
  iintro ⟨HO, ⟨⟨Hy0, Ho0, Hao0⟩, Hs0⟩, ⟨⟨Hy1, Ho1, Hao1⟩, Hs1⟩, ⟨⟨Hy2, Ho2, Hao2⟩, Hs2⟩⟩
  simp only [Prog.lift, Prog.bind_op, Prog.bind_ret, Prog.pure_eq_ret]
  iapply (step_wait_out X G K c 3 rfl) $$ [Ho3 Hao3 HO]
  · iframe Hg Ho3 HO Hao3
  iintro ⟨⟨Hy3, Ho3⟩, HO, Hao3⟩
  iapply (loop_sent X G K c 3 k0_t13_ok _ (by decide) (fun t => step_sent X G K c 3 ⟨t.val, t.isLt⟩ (semSend 3 ⟨t.val, t.isLt⟩ (k0_off31_eq t) _))) $$ [Hs3 Hc3 HO]
  · isplitr; · iexact Hg
    isplitl [Hs3 Hc3]
    · iapply (sentNeed_intro c 3)
      isplitl [Hs3]; · iexact Hs3
      iexact Hc3
    iexact HO
  iintro ⟨Hs3, HO⟩
  rw [wp_ret]
  imodintro
  iapply Hk
  iframe HG HO Hb Hxb0 Hx0 Hai0 Hm0 Hr0 Hs0 Hy0 Ho0 Hao0 Hxb1 Hx1 Hai1 Hm1 Hr1 Hs1 Hy1 Ho1 Hao1 Hxb2 Hx2 Hai2 Hm2 Hr2 Hs2 Hy2 Ho2 Hao2 Hxb3 Hx3 Hai3 Hm3 Hr3 Hs3 Hy3 Ho3 Hao3

end Body

end Cert.KernelIdealProof

end
-- ==== Proof.Open.lean ====
/-
  From whole buffers and the ghost state of the launch to what the row blocks need, and back: the device's cells sorted
  by role, the exchange buffer cut into slots, the cells closed at the end.
-/
module

public import proofs.«01_k».proof.Proof.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Open

variable (X : Dev nD → (main_arg0 : Ref sig .tc).ty.Contents (Elt F)) (G : Dev nD → (cc0_stg0_0 : Ref sig .tc).ty.Contents (Elt F))
  (K : Dev nD × Fin 265 → ℕ)

/-! ## A device's cells, sorted by role -/

/-- The send semaphores of row block `b`, by distance; the one at distance 0 is never used. -/
def sendAt (b : Fin 4) (s : Fin 32) : DmaSem sig := ⟨9 + 32 * b.val + s.val, by have := b.isLt; have := s.isLt; show _ < 265; omega⟩

theorem sendAt_succ (b : Fin 4) (t : Fin 31) : sendAt b t.succ = sendS b t := Fin.ext (by show 9 + 32 * b.val + (t.val + 1) = _; rfl)
theorem sendAt_ne (b : Fin 4) (s : Fin 32) : (sendAt b s).val ≠ 0 := by show 9 + 32 * b.val + s.val ≠ 0; omega

/-- A cell's number from its role. -/
def numOf : Unit ⊕ (Fin 4 ⊕ (Fin 4 ⊕ ((Fin 4 × Fin 32) ⊕ (Fin 4 × Dev nD)))) → Fin 265
  | .inl _ => 0
  | .inr (.inl b) => inS b
  | .inr (.inr (.inl b)) => outS b
  | .inr (.inr (.inr (.inl p))) => sendAt p.1 p.2
  | .inr (.inr (.inr (.inr p))) => recvS p.1 p.2

theorem numOf_injective : Function.Injective numOf := by
  rintro (_ | b | b | ⟨b, s⟩ | ⟨b, j⟩) (_ | b' | b' | ⟨b', s'⟩ | ⟨b', j'⟩) h <;>
    have h := congrArg Fin.val h <;> simp only [numOf, inS, outS, sendAt, recvS, Fin.val_zero] at h <;>
    first
    | rfl
    | (exfalso; first | (have := b.isLt; omega) | (have := b'.isLt; omega) | omega)
    | (have : b = b' := Fin.ext (by omega); subst this; rfl)
    | (have h1 := s.isLt; have h2 := s'.isLt; obtain rfl : b = b' := Fin.ext (by omega); obtain rfl : s = s' := Fin.ext (by omega); rfl)
    | (have h1 : j.val < 32 := j.isLt; have h2 : j'.val < 32 := j'.isLt; obtain rfl : b = b' := Fin.ext (by omega); obtain rfl : j = j' := Fin.ext (by omega); rfl)
    | (exfalso; have h1 := b.isLt; have h2 := b'.isLt; have h3 := s.isLt; omega)
    | (exfalso; have h1 := b.isLt; have h2 := b'.isLt; have h3 := s'.isLt; omega)

def numEquiv : Unit ⊕ (Fin 4 ⊕ (Fin 4 ⊕ ((Fin 4 × Fin 32) ⊕ (Fin 4 × Dev nD)))) ≃ Fin 265 :=
  Equiv.ofBijective numOf ((Fintype.bijective_iff_injective_and_card _).mpr ⟨numOf_injective, by
    simp only [Fintype.card_sum, Fintype.card_prod, Fintype.card_unit, Fintype.card_fin, Dev, nD]⟩)

theorem kcell_in (c : Dev nD) (b : Fin 4) : kcell (c, inS b) = inCell c b := kcell_dma c _ (inS_ne b)
theorem kcell_out (c : Dev nD) (b : Fin 4) : kcell (c, outS b) = outCell c b := kcell_dma c _ (outS_ne b)
theorem kcell_send (c : Dev nD) (b : Fin 4) (t : Fin 31) : kcell (c, sendAt b t.succ) = sendCell c b t := by
  rw [sendAt_succ]; exact kcell_dma c _ (sendS_ne b t)
theorem kcell_recv (c : Dev nD) (b : Fin 4) (j : Dev nD) : kcell (c, recvS b j) = recvCell c b j := kcell_dma c _ (recvS_ne b j)

/-- What one row block has of a family over a device's cells. -/
def BlkC (Ψ : GSem nD τ sig → sProp 𝕄) (c : Dev nD) (b : Fin 4) : sProp 𝕄 :=
  iprop(Ψ (inCell c b) ∗ Ψ (outCell c b) ∗ (Ψ (kcell (c, sendAt b 0)) ∗ bigSep (Ring.rangeSet 31 0 31) fun t => Ψ (sendCell c b t))
    ∗ (Ψ (recvCell c b c) ∗ bigSep (Ring.rangeSet 31 0 31) fun t => Ψ (recvCell c b (peer c t))))

omit [FloatOps F] in
theorem cells_split (Ψ : GSem nD τ sig → sProp 𝕄) (c : Dev nD) :
    (bigSep Finset.univ fun k : Fin 265 => Ψ (kcell (c, k))) = iprop(Ψ (barCell c) ∗ bigSep Finset.univ (BlkC Ψ c)) := by
  have hs (b : Fin 4) : (bigSep Finset.univ fun s : Fin 32 => Ψ (kcell (c, sendAt b s)))
      = iprop(Ψ (kcell (c, sendAt b 0)) ∗ bigSep (Ring.rangeSet 31 0 31) fun t => Ψ (sendCell c b t)) := by
    rw [Fin.univ_succ, Finset.cons_eq_insert, bigSep_insert (by simp), bigSep_map, Ring.rangeSet_univ]
    simp only [Function.Embedding.coeFn_mk, Fin.coe_succEmb]
    simp only [kcell_send]
    rfl
  have hr (b : Fin 4) : (bigSep Finset.univ fun j : Dev nD => Ψ (kcell (c, recvS b j)))
      = iprop(Ψ (recvCell c b c) ∗ bigSep (Ring.rangeSet 31 0 31) fun t => Ψ (recvCell c b (peer c t))) := by
    rw [devs_split c]
    simp only [kcell_recv]
  rw [bigSep_univ_equiv numEquiv, bigSep_univ_sum, bigSep_univ_sum, bigSep_univ_sum, bigSep_univ_sum, bigSep_univ_prod, bigSep_univ_prod]
  unfold BlkC
  rw [bigSep_sep', bigSep_sep', bigSep_sep']
  refine congrArg₂ _ ?_ (congrArg₂ _ ?_ (congrArg₂ _ ?_ (congrArg₂ _ ?_ ?_)))
  · rw [show (Finset.univ : Finset Unit) = {()} from rfl, bigSep_singleton]; rfl
  · exact bigSep_congr fun b _ => congrArg Ψ (kcell_in c b)
  · exact bigSep_congr fun b _ => congrArg Ψ (kcell_out c b)
  · exact bigSep_congr fun b _ => hs b
  · exact bigSep_congr fun b _ => hr b

/-! ## From what a device starts with to what its row blocks need -/

/-- The right to pay each of the device's duties. -/
def Toks (c : Dev nD) : sProp 𝕄 :=
  iprop((bigSep (Ring.rangeSet 31 0 31) fun t => dutyTok ER (barCell (peer c t)) 0 c)
    ∗ bigSep Finset.univ fun b : Fin 4 => iprop(dutyTok ER (inCell c b) 0 0 ∗ dutyTok ER (outCell c b) 0 0 ∗ SdT c b))
/-- The credit of everything that will come to the device. -/
def Creds (c : Dev nD) : sProp 𝕄 :=
  iprop(cred (tallyAt (barCell c) () 31)
    ∗ bigSep Finset.univ fun b : Fin 4 => bigSep (Ring.rangeSet 31 0 31) fun t => cred (tallyAt (recvCell c b (peer c t)) () NC))
/-- A buffer at contents not chosen. -/
abbrev Any (c : Dev nD) (r : Ref sig .tc) : sProp 𝕄 := iprop(∃ f : Buf (Elt F) ((c : Thread nD τ).loc r), ((c : Thread nD τ).loc r) ↦{fullShare} f)
/-- The two cells of each row block that nothing ever reaches. -/
def Idle (c : Dev nD) : sProp 𝕄 :=
  bigSep Finset.univ fun b : Fin 4 => iprop(atPos ER (kcell (c, sendAt b 0)) 0 ∅ 0 ∗ atPos ER (recvCell c b c) 0 ∅ 0)

omit [FloatOps F] in
theorem blocks_mono {Φ Ψ : Fin 4 → sProp 𝕄} (h : ∀ b, Φ b ⊢ Ψ b) : bigSep Finset.univ Φ ⊢ bigSep Finset.univ Ψ := bigSep_mono fun b _ => h b

omit [FloatOps F] in
/-- Families over the row blocks, as one family. -/
theorem blocks_pair {Φ Ψ : Fin 4 → sProp 𝕄} : iprop(bigSep Finset.univ Φ ∗ bigSep Finset.univ Ψ) ⊢ bigSep Finset.univ fun b => iprop(Φ b ∗ Ψ b) :=
  Entails.of_eq (bigSep_sep' _ _ _).symm
omit [FloatOps F] in
theorem blocks_unpair {Φ Ψ : Fin 4 → sProp 𝕄} : (bigSep Finset.univ fun b => iprop(Φ b ∗ Ψ b)) ⊢ iprop(bigSep Finset.univ Φ ∗ bigSep Finset.univ Ψ) :=
  Entails.of_eq (bigSep_sep' _ _ _)

omit [FloatOps F] in
theorem bigSep_any {I : Type} [Fintype I] {A : Type} (Ψ : I → A → sProp 𝕄) (f : A) : bigSep Finset.univ (fun i => Ψ i f) ⊢ bigSep Finset.univ fun i => iprop(∃ f, Ψ i f) := by
  have h : ∀ i, Ψ i f ⊢ iprop(∃ f, Ψ i f) := by intro i; iintro H; iexists f; iexact H
  exact bigSep_mono fun i _ => h i

omit [FloatOps F] in
theorem any_xb (c : Dev nD) : Any c cc0_scratch0 ⊢ (bigSep Finset.univ fun b : Fin 4 => iprop(∃ f, xbPts c b f) : sProp 𝕄) := by
  have h (f : Buf (Elt F) ((c : Thread nD τ).loc cc0_scratch0)) := (Entails.of_eq (xb_split c f)).trans (bigSep_any (fun b : Fin 4 => xbPts c b) f)
  iintro ⟨%f, H⟩
  iapply (h f) $$ H
omit [FloatOps F] in
theorem any_ob (c : Dev nD) : Any c cc0_scratch1 ⊢ (bigSep Finset.univ fun b : Fin 4 => iprop(∃ f, obPts c b f) : sProp 𝕄) := by
  have h (f : Buf (Elt F) ((c : Thread nD τ).loc cc0_scratch1)) := (Entails.of_eq (ob_split c f)).trans (bigSep_any (fun b : Fin 4 => obPts c b) f)
  iintro ⟨%f, H⟩
  iapply (h f) $$ H
omit [FloatOps F] in
theorem any_y (c : Dev nD) : Any c main_v2 ⊢ (bigSep Finset.univ fun b : Fin 4 => iprop(∃ f, yPts c b f) : sProp 𝕄) := by
  have h (f : Buf (Elt F) ((c : Thread nD τ).loc main_v2)) := (Entails.of_eq (y_split c f)).trans (bigSep_any (fun b : Fin 4 => yPts c b) f)
  iintro ⟨%f, H⟩
  iapply (h f) $$ H
omit [FloatOps F] in
/-- The exchange buffer: of every row block the device's own slot, and the slots to lend to each peer. -/
theorem any_cm (c : Dev nD) : Any c cc0_scratch2
    ⊢ (iprop((bigSep Finset.univ fun b : Fin 4 => iprop(∃ f, cmPts c b c fullShare f))
        ∗ bigSep Finset.univ fun b : Fin 4 => bigSep (Ring.rangeSet 31 0 31) fun t => iprop(∃ f, cmPts c b (peer c t) fullShare f)) : sProp 𝕄) := by
  rw [← bigSep_sep']
  have h (f : Buf (Elt F) ((c : Thread nD τ).loc cc0_scratch2)) := (Entails.of_eq (cm_split c f)).trans (bigSep_any (fun p : Fin 4 × Dev nD => cmPts c p.1 p.2 fullShare) f)
  have h' (f : Buf (Elt F) ((c : Thread nD τ).loc cc0_scratch2)) := (h f).trans ((Entails.of_eq (bigSep_univ_prod _)).trans (Entails.of_eq (bigSep_congr fun b _ => devs_split c fun j => iprop(∃ f, cmPts c b j fullShare f))))
  iintro ⟨%f, H⟩
  iapply (h' f) $$ H

/-- The slots to lend, sorted by peer, with the word that the cells of what will arrive are open. -/
theorem lend_slots (c : Dev nD) :
    iprop(Ghost X G K c ∗ bigSep Finset.univ fun b : Fin 4 => bigSep (Ring.rangeSet 31 0 31) fun t => iprop(∃ f, cmPts c b (peer c t) fullShare f))
      ⊢ (bigSep (Ring.rangeSet 31 0 31) fun t => barPay (peer c t) c : sProp 𝕄) := by
  have h (b : Fin 4) (t : Fin 31) : iprop(Ghost X G K c ∗ ∃ f, cmPts c b (peer c t) fullShare f) ⊢ slotFor (peer c t) b c := by
    iintro ⟨#Hg, H⟩
    isplitl [H]; · iexact H
    ihave #Hgc := (ghost_dma X G K c (recvS b (peer c t)) (recvS_ne b _)) $$ Hg
    icases Hgc with ⟨-, #Hr⟩
    iexact Hr
  unfold barPay
  rw [Ring.rangeSet_univ, bigSep_univ_comm]
  refine (bigSep_with_persistent (R := Ghost X G K c) (Ψ := fun t : Fin 31 => bigSep Finset.univ fun b : Fin 4 => slotFor (peer c t) b c) fun t _ => ?_)
  exact bigSep_with_persistent fun b _ => h b t

theorem start_body (c : Dev nD) :
    iprop(Ghost X G K c ∗ (bigSep Finset.univ fun k : Fin 265 => atPos ER (kcell (c, k)) 0 ∅ 0) ∗ Toks c ∗ Creds c
        ∗ (((c : Thread nD τ).loc main_arg0) ↦{fullShare} (X c)) ∗ Any c main_v2 ∗ Any c cc0_scratch0 ∗ Any c cc0_scratch1 ∗ Any c cc0_scratch2)
      ⊢ iprop((bigSep (Ring.rangeSet 31 0 31) fun t => iprop(dutyTok ER (barCell (peer c t)) 0 c ∗ barPay (peer c t) c))
          ∗ (cred (tallyAt (barCell c) () 31) ∗ atPos ER (barCell c) 0 ∅ 0) ∗ (BlkA X c 0 ∗ BlkA X c 1 ∗ BlkA X c 2 ∗ BlkA X c 3) ∗ Idle c) := by
  rw [cells_split (fun g => atPos ER g 0 ∅ 0), ← bigSep_fin4 (fun b => BlkA X c b), x_split]
  unfold Toks Creds Idle
  iintro ⟨#Hg, ⟨Hab, Hat⟩, ⟨Htb, Ht⟩, ⟨Hcb, Hc⟩, Hx, Hy, Hxb, Hob, Hcm⟩
  ihave Hy := (any_y c) $$ Hy
  ihave Hxb := (any_xb c) $$ Hxb
  ihave Hob := (any_ob c) $$ Hob
  ihave Hcm := (any_cm c) $$ Hcm
  icases Hcm with ⟨Hown, Hlend⟩
  ihave Hlend := (lend_slots X G K c) $$ [Hlend]
  · iframe Hg Hlend
  isplitl [Htb Hlend]
  · rw [bigSep_sep']; iframe Htb Hlend
  isplitl [Hab Hcb]; · iframe Hcb Hab
  rw [← bigSep_sep']
  have hb : ∀ b : Fin 4, iprop(BlkC (fun g => atPos ER g 0 ∅ 0) c b ∗ (dutyTok ER (inCell c b) 0 0 ∗ dutyTok ER (outCell c b) 0 0 ∗ SdT c b)
      ∗ (bigSep (Ring.rangeSet 31 0 31) fun t => cred (tallyAt (recvCell c b (peer c t)) () NC)) ∗ xPts c b (X c) ∗ (∃ f, yPts c b f) ∗ (∃ f, xbPts c b f) ∗ (∃ f, obPts c b f) ∗ (∃ f, cmPts c b c fullShare f))
      ⊢ (iprop(BlkA X c b ∗ (atPos ER (kcell (c, sendAt b 0)) 0 ∅ 0 ∗ atPos ER (recvCell c b c) 0 ∅ 0)) : sProp 𝕄) := by
    intro b
    unfold BlkC BlkA RvA recvNeed
    rw [bigSep_sep']
    iintro ⟨⟨Hi, Ho, ⟨Hs0, Hs⟩, ⟨Hr0, Hr⟩⟩, ⟨Hti, Hto, Htd⟩, Hc, Hx, Hy, Hxb, Hob, Hcm⟩
    iframe Hi Ho Hs0 Hs Hr0 Hr Hti Hto Htd Hc Hx Hy Hxb Hob Hcm
  iapply (blocks_mono hb)
  iapply blocks_pair; isplitl [Hat]; · iexact Hat
  iapply blocks_pair; isplitl [Ht]; · iexact Ht
  iapply blocks_pair; isplitl [Hc]; · iexact Hc
  iapply blocks_pair; isplitl [Hx]; · iexact Hx
  iapply blocks_pair; isplitl [Hy]; · iexact Hy
  iapply blocks_pair; isplitl [Hxb]; · iexact Hxb
  iapply blocks_pair; isplitl [Hob]; · iexact Hob
  iexact Hown

/-! ## And back -/

/-- A cell's position once nothing more will come to it. -/
def EndPos (g : GSem nD τ sig) : sProp 𝕄 := iprop(∃ R, ⌜∀ r, R ≤ r → (sched X G).duties g r = ∅⌝ ∗ atPos ER g R ∅ 0)

theorem endPos_one (g : GSem nD τ sig) : atPos ER g 1 ∅ 0 ⊢ EndPos X G g := by
  unfold EndPos
  iintro H; iexists 1
  isplitr; · ipureintro; exact duties_later X G g
  iexact H
theorem endPos_idle (g : GSem nD τ sig) (h : (sched X G).duties g 0 = ∅) : atPos ER g 0 ∅ 0 ⊢ EndPos X G g := by
  unfold EndPos
  iintro H; iexists 0
  isplitr
  · ipureintro; intro r _
    rcases Nat.eq_zero_or_pos r with rfl | hr
    · exact h
    · exact duties_later X G g r hr
  iexact H
theorem role_send0 (b : Fin 4) : role (.dma (sendAt b 0)) = .send b 0 := by
  have hb := b.isLt
  have h0 : (sendAt b 0).val = 9 + 32 * b.val := rfl
  unfold role
  simp only [h0]
  rw [if_neg (by omega), if_neg (by omega), if_neg (by omega), if_pos (by omega)]
  congr 1
  · exact Fin.ext (by show (9 + 32 * b.val - 9) / 32 % 4 = b.val; omega)
  · exact Fin.ext (by show (9 + 32 * b.val - 9) % 32 = 0; omega)

theorem duties_send0 (c : Dev nD) (b : Fin 4) : (sched X G).duties (kcell (c, sendAt b 0)) 0 = ∅ := by
  rw [kcell_dma c _ (sendAt_ne b 0), duties_of, role_send0]
  rfl
theorem duties_own (c : Dev nD) (b : Fin 4) : (sched X G).duties (recvCell c b c) 0 = ∅ := by
  rw [duties_of, role_recv]
  exact if_pos rfl

theorem endPos_family {I : Type} (s : Finset I) (g : I → GSem nD τ sig) : (bigSep s fun i => atPos ER (g i) 1 ∅ 0) ⊢ bigSep s fun i => EndPos X G (g i) :=
  bigSep_mono fun i _ => endPos_one X G (g i)

/-- Cells where nothing more comes read zero. -/
theorem close_cells (c : Dev nD) : iprop(Ghost X G K c ∗ bigSep Finset.univ fun k : Fin 265 => EndPos X G (kcell (c, k)))
    ⊢ (|={Set.univ}=> bigSep Finset.univ fun k : Fin 265 => semVal (kcell (c, k)) 0 : sProp 𝕄) := by
  have h (k : Fin 265) : iprop(Ghost X G K c ∗ EndPos X G (kcell (c, k))) ⊢ (|={Set.univ}=> semVal (kcell (c, k)) 0 : sProp 𝕄) := by
    unfold EndPos
    iintro ⟨#Hg, ⟨%R, %hR, Hat⟩⟩
    ihave #Hi := (ghost_inv X G K c c k) $$ Hg
    iapply (Rounds.cell_close ER (sched X G) (Set.mem_univ (K (c, k))) (fun h => h) hR)
    isplitr; · iexact Hi
    iexact Hat
  exact (bigSep_with_persistent fun k _ => h k).trans (bigSep_fupd _ _)

theorem finish_body (c : Dev nD) :
    iprop(Ghost X G K c ∗ atPos ER (barCell c) 1 ∅ 0 ∗ (BlkZ X G c 0 ∗ BlkZ X G c 1 ∗ BlkZ X G c 2 ∗ BlkZ X G c 3) ∗ Idle c)
      ⊢ (|={Set.univ}=> ((bigSep Finset.univ fun k : Fin 265 => semVal (kcell (c, k)) 0) ∗ (((c : Thread nD τ).loc main_arg0) ↦{fullShare} (X c))
          ∗ (((c : Thread nD τ).loc main_v2) ↦{fullShare} (yF X G c)) ∗ Any c cc0_scratch0 ∗ Any c cc0_scratch1 ∗ Any c cc0_scratch2) : sProp 𝕄) := by
  have hb : ∀ b : Fin 4, iprop(BlkZ X G c b ∗ (atPos ER (kcell (c, sendAt b 0)) 0 ∅ 0 ∗ atPos ER (recvCell c b c) 0 ∅ 0))
      ⊢ iprop(BlkC (EndPos X G) c b ∗ xPts c b (X c) ∗ yPts c b (yF X G c) ∗ xbPts c b (xbF X c) ∗ obPts c b (obF X G c)
          ∗ bigSep Finset.univ fun j : Dev nD => cmPts c b j fullShare (cmF X)) := by
    intro b
    unfold BlkC BlkZ RvB recvDone StB sentDone
    rw [bigSep_sep', bigSep_sep', devs_split c]
    iintro ⟨⟨⟨Hxb, Hx, Hai⟩, Hm, ⟨Hr, Har⟩, ⟨Hs, Has⟩, ⟨Hy, Hob, Hao⟩⟩, ⟨H0, Hr0⟩⟩
    isplitl [Hai Har Has Hao H0 Hr0]
    · isplitl [Hai]; · iapply (endPos_one X G); iexact Hai
      isplitl [Hao]; · iapply (endPos_one X G); iexact Hao
      isplitl [H0 Has]
      · isplitl [H0]; · iapply (endPos_idle X G _ (duties_send0 X G c b)); iexact H0
        iapply (endPos_family X G _ fun t => sendCell c b t); iexact Has
      isplitl [Hr0]; · iapply (endPos_idle X G _ (duties_own X G c b)); iexact Hr0
      iapply (endPos_family X G _ fun t => recvCell c b (peer c t)); iexact Har
    iframe Hx Hy Hxb Hob Hr
    iapply (kept_join c b c (cmF X) 31 le_rfl)
    iframe Hm Hs
  rw [← bigSep_fin4 (fun b => BlkZ X G c b)]
  unfold Idle
  iintro ⟨#Hg, Hab, HB, HI⟩
  ihave H := (blocks_mono hb) $$ [HB HI]
  · iapply blocks_pair; iframe HB HI
  ihave H := blocks_unpair $$ H; icases H with ⟨Hat, H⟩
  ihave H := blocks_unpair $$ H; icases H with ⟨Hx, H⟩
  ihave H := blocks_unpair $$ H; icases H with ⟨Hy, H⟩
  ihave H := blocks_unpair $$ H; icases H with ⟨Hxb, H⟩
  ihave H := blocks_unpair $$ H; icases H with ⟨Hob, Hcm⟩
  imod (close_cells X G K c) $$ [Hab Hat] with Hz
  · isplitr; · iexact Hg
    rw [cells_split (EndPos X G)]
    isplitl [Hab]; · iapply (endPos_one X G); iexact Hab
    iexact Hat
  imodintro
  isplitl [Hz]; · iexact Hz
  isplitl [Hx]; · rw [x_split]; iexact Hx
  isplitl [Hy]; · rw [y_split]; iexact Hy
  isplitl [Hxb]; · iexists (xbF X c); rw [xb_split]; iexact Hxb
  isplitl [Hob]; · iexists (obF X G c); rw [ob_split]; iexact Hob
  iexists (cmF X); rw [cm_split, bigSep_univ_prod]; iexact Hcm

end Open

end Cert.KernelIdealProof

end
-- ==== Proof.Region.lean ====
/-
  The kernel as the region of the program that runs it: what a device holds when the region is entered and when it
  is left, the region's own semaphores put under the protocol at entry, and the body's obligation from the run of
  the kernel.
-/
module

public import proofs.«01_k».proof.Proof.Open
public import proofs.«01_k».proof.Proof.Gen.KernelIdeal.Frame
public import Idealize.ShloMosaic.Lib.Pipeline.Regions
public import Idealize.ShloMosaic.Lib.Pipeline.RegionTalk
public import Idealize.ShloMosaic.Lib.Rounds
public import Idealize.ShloMosaic.Lib.Rounds.Family
public import Idealize.ShloMosaic.Lib.StableHlo

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's valuations, and what the kernel reads -/

/-- A device's buffers at launch, where the region is entered, and where it is left. -/
abbrev V₀ (c : Dev nD) : Valuation τ sig (Elt F) := fun b => m ((c : Dev nD), b)
abbrev V₁ (c : Dev nD) : Valuation τ sig (Elt F) := StableHlo.after hostOps0 (V₀ m c)

/-- The block of activations a device holds, and the scale as its staging buffer holds it. -/
def XX (c : Dev nD) : (main_arg0 : Ref sig .tc).ty.Contents (Elt F) := V₁ m c (Proc.devRef .tc main_arg0)
def GG (c : Dev nD) : (cc0_stg0_0 : Ref sig .tc).ty.Contents (Elt F) := ((cfg0.win 0).blk t0_0).view.read (Elt F) (V₁ m c (Proc.devRef .tc main_v1))

abbrev V₂ (c : Dev nD) : Valuation τ sig (Elt F) := Function.update (V₁ m c) (Proc.devRef .tc main_v2) (yF (XX m) (GG m) c)

/-! ## The semaphores that come with the region -/

def osem (k : Fin 264) : SemLoc sig := .dma k.succ

theorem kcell_succ (c : Dev nD) (k : Fin 264) : kcell (c, k.succ) = ((c : Thread nD τ), osem k) :=
  kcell_dma c _ (Nat.succ_ne_zero _)

omit [FloatOps F] in
/-- A family over a device's cells: the barrier's, then those of the region. -/
theorem cells_succ (Φ : Fin 265 → sProp 𝕄) : bigSep Finset.univ Φ = iprop(Φ 0 ∗ bigSep Finset.univ fun k : Fin 264 => Φ k.succ) := by
  rw [Fin.univ_succ, Finset.cons_eq_insert, bigSep_insert (by simp), bigSep_map]
  rfl

omit [FloatOps F] in
theorem ownSems_eq (c : Dev nD) : (Pipeline.ownSems0 osem c : sProp 𝕄) = bigSep Finset.univ fun k : Fin 264 => semVal (kcell (c, k.succ)) 0 := by
  unfold Pipeline.ownSems0
  exact bigSep_congr fun k _ => by rw [kcell_succ]

theorem isScoped_dma : ∀ k : Fin 264, (osem k).isScoped .tc = true := by decide +kernel

theorem ownFacts : Pipeline.OwnSemFacts spec0 osem where
  isScoped := isScoped_dma
  inj k k' h := by
    have h' : k.succ = k'.succ := SemLoc.dma.inj h
    exact Fin.succ_injective _ h'
  disj k w s h := by
    have h' : k.succ = (spec0 w).sem s := SemLoc.dma.inj h
    have hz : ∀ (w : Fin 1) (s : Fin (spec0 w).nbuf), (spec0 w).sem s = (0 : Fin 265) := by decide
    rw [hz] at h'
    exact absurd h' (Fin.succ_ne_zero k)

/-! ## What a device holds on either side of the kernel -/

abbrev xW (c : Dev nD) : sProp 𝕄 := ((c : Thread nD τ).loc main_arg0) ↦{fullShare} (XX m c)
abbrev yW (c : Dev nD) (f : Buf (Elt F) ((c : Thread nD τ).loc main_v2)) : sProp 𝕄 := ((c : Thread nD τ).loc main_v2) ↦{fullShare} f
abbrev Scr (c : Dev nD) : sProp 𝕄 := iprop(Any c cc0_scratch0 ∗ Any c cc0_scratch1 ∗ Any c cc0_scratch2)

/-- The protocol's state before the region's own cells are opened, and after. -/
def Dorm (K : Dev nD × Fin 265 → ℕ) (c : Dev nD) : sProp 𝕄 :=
  iprop(((bigSep Finset.univ fun ck => cellInv ER (sched (XX m) (GG m)) (K ck) (kcell ck)) ∗ bigSep Finset.univ fun p : Dev nD => reached ER (barCell p) 0)
    ∗ atPos ER (barCell c) 0 ∅ 0 ∗ (bigSep Finset.univ fun k : Fin 264 => openTok ER (kcell (c, k.succ))) ∗ Toks c)
def Opened (K : Dev nD × Fin 265 → ℕ) (c : Dev nD) : sProp 𝕄 :=
  iprop(Ghost (XX m) (GG m) K c ∗ (bigSep Finset.univ fun k : Fin 265 => atPos ER (kcell (c, k)) 0 ∅ 0) ∗ Toks c)

def Tk (c : Dev nD) : sProp 𝕄 := iprop((∃ K, Dorm m K c) ∗ Creds c)
def Xk (c : Dev nD) : sProp 𝕄 := iprop((∃ K, Opened m K c) ∗ Creds c)
def Yk (c : Dev nD) : sProp 𝕄 := semVal (barCell c) 0

theorem open_cells (K : Dev nD × Fin 265 → ℕ) (c : Dev nD) :
    iprop((bigSep Finset.univ fun ck => cellInv ER (sched (XX m) (GG m)) (K ck) (kcell ck)) ∗ (bigSep Finset.univ fun k : Fin 264 => openTok ER (kcell (c, k.succ)))
        ∗ bigSep Finset.univ fun k : Fin 264 => semVal (kcell (c, k.succ)) 0)
      ⊢ (|={Set.univ}=> ((bigSep Finset.univ fun k : Fin 264 => atPos ER (kcell (c, k.succ)) 0 ∅ 0)
          ∗ bigSep Finset.univ fun k : Fin 264 => reached ER (kcell (c, k.succ)) 0) : sProp 𝕄) := by
  have hi : iprop((bigSep Finset.univ fun ck => cellInv ER (sched (XX m) (GG m)) (K ck) (kcell ck)) ∗ bigSep Finset.univ fun k : Fin 264 => openTok ER (kcell (c, k.succ)))
      ⊢ (bigSep Finset.univ fun k : Fin 264 => iprop(cellInv ER (sched (XX m) (GG m)) (K (c, k.succ)) (kcell (c, k.succ)) ∗ openTok ER (kcell (c, k.succ))) : sProp 𝕄) :=
    bigSep_with_persistent fun k _ => sep_mono_left (bigSep_elim (Finset.mem_univ (c, k.succ)))
  have ho := Rounds.cells_open ER (sched (XX m) (GG m)) Finset.univ (fun k : Fin 264 => kcell (c, k.succ)) (fun k => K (c, k.succ)) (Es := Set.univ) fun _ _ => Set.mem_univ _
  rw [bigSep_sep' _ (fun k : Fin 264 => atPos ER (kcell (c, k.succ)) 0 ∅ 0)] at ho
  iintro ⟨HI, Ho, Hs⟩
  iapply ho
  isplitl [HI Ho]
  · iapply hi
    iframe HI Ho
  · iexact Hs

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, Hd⟩, Hc⟩, Hs, #Hl⟩
  unfold Dorm
  icases Hd with ⟨⟨#HI, #HR⟩, Hb, Ho, Ht⟩
  imod (open_cells m K c) $$ [Ho Hs] with ⟨Ha, #Hr⟩
  · iframe HI Ho Hs
  imodintro
  isplitr [Hc]
  · iexists K
    unfold Opened Ghost
    rw [cells_succ (fun k => atPos ER (kcell (c, k)) 0 ∅ 0), cells_succ (fun k => reached ER (kcell (c, k)) 0)]
    isplitr
    · isplitr; · iexact HI
      isplitr; · iexact HR
      isplitr
      · isplitr
        · iapply (show (bigSep Finset.univ (fun p : Dev nD => reached ER (barCell p) 0) : sProp 𝕄) ⊢ reached ER (barCell c) 0 from bigSep_elim (Finset.mem_univ c)); iexact HR
        · iexact Hr
      · iexact Hl
    isplitl [Hb Ha]
    · isplitl [Hb]; · iexact Hb
      iexact Ha
    · iexact Ht
  · iexact Hc

/-! ## The pipeline's proof data -/

def PhiA (c : Dev nD) : sProp 𝕄 :=
  iprop(Xk m c ∗ xW m c ∗ yW c (V₁ m c (Proc.devRef .tc main_v2)) ∗ Scr c ∗ ∃ r, prngReg c r)
def PhiZ (c : Dev nD) : sProp 𝕄 :=
  iprop(Yk c ∗ Pipeline.ownSems0 osem c ∗ xW m c ∗ yW c (yF (XX m) (GG m) c) ∗ Scr c ∗ ∃ r, prngReg c r)

def dat0 (c : Dev nD) : Dat τ (Elt F) Unit ℕ UU ℕ cfg0 c where
  A w := V₁ m c (Proc.devRef .tc (Pipeline.arrRef spec0 w))
  after w _ := match w with
    | ⟨0, _⟩ => GG m c
  Φ t := if t.val = 0 then PhiA m c else PhiZ m c
  q _ := fullShare
  owed t := if t.val = 0 then owe0 c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_eq (c : Dev nD) (t : Fin cfg0.N) (d) : (dat0 m c).before 0 t d = GG m c := by
  rw [fin_N0 t]
  exact ((dat0 m c).before_in_eq_fetched 0 rfl (fun _ => rfl) (fun _ _ _ => rfl) (fun t => by rw [fin_N0 t]; rfl) t0_0 d).trans rfl

theorem N_pos : (Fin.last cfg0.N).val ≠ 0 := by rw [Fin.val_last, show cfg0.N = 1 from N_0]; decide
theorem owed_first (c : Dev nD) : (dat0 (F := F) m c).owed t0_0.castSucc = owe0 c := rfl
theorem owed_zero (c : Dev nD) : (pdats (F := F) m 0 c).owed 0 = owe0 c := rfl
theorem owed_next (c : Dev nD) : (dat0 (F := F) m c).owed t0_0.succ = 0 := rfl
theorem owed_last (c : Dev nD) : (pdats (F := F) m 0 c).owed (Fin.last _) = 0 := by
  show (if (Fin.last cfg0.N).val = 0 then owe0 c else 0) = 0
  exact if_neg N_pos
theorem phi_first (c : Dev nD) : (dat0 (F := F) m c).Φ t0_0.castSucc = PhiA m c := rfl
theorem phi_zero (c : Dev nD) : (pdats (F := F) m 0 c).Φ 0 = PhiA m c := rfl
theorem phi_next (c : Dev nD) : (dat0 (F := F) m c).Φ t0_0.succ = PhiZ m c := rfl
theorem phi_last (c : Dev nD) : (pdats (F := F) m 0 c).Φ (Fin.last _) = PhiZ m c := by
  show (if (Fin.last cfg0.N).val = 0 then PhiA m c else PhiZ m c) = PhiZ m c
  exact if_neg N_pos

theorem owesAt_intro (c : Dev nD) (t : Fin (cfg0.N + 1)) (O : CellTallies nD τ sig Unit) (h0 : (dat0 m c).owed t = O) :
    (Owe c O : sProp 𝕄) ⊢ (dat0 m c).owesAt () t := by
  unfold Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ Owe c O := by
  unfold Dat.owesAt Pipeline.owesWithin; rw [h0]
  iintro ⟨%W, -, HO⟩; iexists W; iexact HO

/-! ## The kernel, from what the region gives it to what it gives back -/

theorem kernel_run (c : Dev nD) (h0 : xM.IsWhole) (h1 : gM.IsWhole) (h2 : yM.IsWhole) (h3 : xbM.IsWhole) (h4 : obM.IsWhole) (h5 : cmM.IsWhole) :
    iprop(PhiA m c ∗ Owe c (owe0 c) ∗ (((c : Thread nD τ).loc cc0_stg0_0) ↦{fullShare} (GG m c)))
      ⊢ wp frame (wpE (defs₀ (F := F)) 𝒱₀ (c : Thread nD τ) none) Set.univ (cc0_body xM h0 gM h1 yM h2 xbM h3 obM h4 cmM h5 cc0_scratch3 cc0_scratch4 cc0_scratch5 cc0_scratch6)
        fun _ => iprop(PhiZ m c ∗ Owe c 0 ∗ (((c : Thread nD τ).loc cc0_stg0_0) ↦{fullShare} (GG m c))) := by
  refine BIBase.Entails.trans ?_ (wp_fupd _ _ _ _ _)
  unfold PhiA Xk
  iintro ⟨⟨⟨⟨%K, Ho⟩, Hc⟩, Hx, Hy, ⟨H0, H1, H2⟩, Hp⟩, HO, HG⟩
  unfold Opened
  icases Ho with ⟨#Hg, Ha, Ht⟩
  ihave Hs := (start_body (XX m) (GG m) K c) $$ [Ha Ht Hc Hx Hy H0 H1 H2]
  · iframe Hg Ha Ht Hc Hx H0 H1 H2
    iexists _; iexact Hy
  icases Hs with ⟨Hs, Hb, ⟨HB0, HB1, HB2, HB3⟩, HI⟩
  iapply (body_core (XX m) (GG m) K h0 h1 h2 h3 h4 h5 c) $$ [Hs HO HG Hb HB0 HB1 HB2 HB3]
  · iframe Hg Hs HO HG Hb HB0 HB1 HB2 HB3
  iintro ⟨HG, HO, Hb, HZ0, HZ1, HZ2, HZ3⟩
  imod (finish_body (XX m) (GG m) K c) $$ [Hb HZ0 HZ1 HZ2 HZ3 HI] with ⟨Hs, Hx, Hy, H0, H1, H2⟩
  · iframe Hg Hb HZ0 HZ1 HZ2 HZ3 HI
  imodintro
  ihave Hs := (Entails.of_eq (cells_succ (fun k => semVal (kcell (c, k)) 0))) $$ Hs
  icases Hs with ⟨Hb, Hs⟩
  unfold PhiZ Yk
  rw [ownSems_eq]
  iframe HG HO Hx Hy H0 H1 H2 Hp Hs
  iexact Hb

theorem bigSep_win (Φ : Fin cfg0.W → sProp 𝕄) : bigSep Finset.univ Φ = Φ (0 : Fin 1) := bigSep_W0 Φ

omit [FloatOps F] in
theorem owns_stage (c : Dev nD) (g : (cc0_stg0_0 : Ref sig .tc).ty.Contents (Elt F)) :
    (owns (c : Thread nD τ) (Memref.whole cc0_stg0_0) fullShare g : sProp 𝕄) = (((c : Thread nD τ).loc cc0_stg0_0) ↦{fullShare} g) := by
  unfold owns; simp only [Memref.view_whole, View.read_whole, View.set_whole]
  have h1 : iprop(∃ f : Buf (Elt F) ((c : Thread nD τ).loc cc0_stg0_0), ⌜f = g⌝ ∗ (((c : Thread nD τ).loc cc0_stg0_0) ↦{fullShare} f))
      ⊢ (((c : Thread nD τ).loc cc0_stg0_0) ↦{fullShare} g : sProp 𝕄) := by
    iintro ⟨%f, %hf, H⟩; subst hf; iexact H
  have h2 : (((c : Thread nD τ).loc cc0_stg0_0) ↦{fullShare} g : sProp 𝕄)
      ⊢ iprop(∃ f : Buf (Elt F) ((c : Thread nD τ).loc cc0_stg0_0), ⌜f = g⌝ ∗ (((c : Thread nD τ).loc cc0_stg0_0) ↦{fullShare} f)) := by
    iintro H; iexists g; isplitr; · ipureintro; rfl
    iexact H
  exact BI.equiv_iff.mp ⟨h1, h2⟩
theorem stage_in (c : Dev nD) (t : Fin cfg0.N) (d) :
    (owns (c : Thread nD τ) (Memref.whole cc0_stg0_0) fullShare ((dat0 m c).before 0 t d) : sProp 𝕄) ⊢ (((c : Thread nD τ).loc cc0_stg0_0) ↦{fullShare} (GG m c)) :=
  Entails.of_eq ((congrArg _ (before_eq m c t d)).trans (owns_stage c (GG m c)))

theorem body_obligation (c : Dev nD) : BodyObligation (dat0 (F := F) m c) (defs₀ (F := F)) 𝒱₀ () Set.univ := fun t => by
  rw [fin_N0 t, bigSep_win, bigSep_win, phi_first, phi_next]
  show iprop(PhiA m c ∗ (dat0 m c).owesAt () t0_0.castSucc ∗ (∃ d, owns (c : Thread nD τ) (Memref.whole cc0_stg0_0) fullShare ((dat0 m c).before 0 t0_0 d)))
    ⊢ wp frame (wpE (defs₀ (F := F)) 𝒱₀ c none) Set.univ (cc0_body xM _ gM _ yM _ xbM _ obM _ cmM _ cc0_scratch3 cc0_scratch4 cc0_scratch5 cc0_scratch6)
      fun _ => iprop(PhiZ m c ∗ (dat0 m c).owesAt () t0_0.succ ∗ owns (c : Thread nD τ) (Memref.whole cc0_stg0_0) fullShare (GG m c))
  refine BIBase.Entails.trans ?_ ((kernel_run m c _ _ _ _ _ _).trans (wp_mono _ _ _ fun _ => ?_))
  · iintro ⟨Hp, HO, ⟨%d, Hs⟩⟩
    ihave Hs := (stage_in m c t0_0 d) $$ Hs
    iframe Hp Hs
    iapply (owesAt_elim m c _ _ (owed_first m c)); iexact HO
  · iintro ⟨Hp, HO, Hs⟩
    iframe Hp
    isplitl [HO]; · iapply (owesAt_intro m c _ _ (owed_next m c)); iexact HO
    iapply (Entails.of_eq (owns_stage c (GG m c)).symm); iexact Hs

/-! ## The region -/

def heldY : Finset (DevRef τ sig) := {Proc.devRef .tc main_arg0, Proc.devRef .tc main_v2}
def heldR : Finset (DevRef τ sig) := {Proc.devRef .tc main_arg0, Proc.devRef .tc main_v2, Proc.devRef .tc main_arg1}

omit [FloatOps F] in
theorem heldY_eq (c : Dev nD) (W : Valuation τ sig (Elt F)) : (StableHlo.held (c : Thread nD τ) heldY W : sProp 𝕄)
    = iprop((((c : Thread nD τ).loc main_arg0) ↦{fullShare} (W (Proc.devRef .tc main_arg0))) ∗ (((c : Thread nD τ).loc main_v2) ↦{fullShare} (W (Proc.devRef .tc main_v2)))) := by
  unfold StableHlo.held
  rw [bigSep_eq_bigSepL_of_eq [Proc.devRef .tc main_arg0, Proc.devRef .tc main_v2] (by decide) (by decide)]
  rfl

theorem V₂_y (c : Dev nD) : V₂ m c (Proc.devRef .tc main_v2) = yF (XX m) (GG m) c := Function.update_self ..
theorem V₂_ne (c : Dev nD) (b : DevRef τ sig) (h : b ≠ Proc.devRef .tc main_v2) : V₂ m c b = V₁ m c b := Function.update_of_ne h ..

theorem hin (c : Dev nD) : iprop(Pipeline.scopedRest (Pipeline.pin (pcfgs (F := F)) adm 0).spec c ∗ (∃ r, prngReg c r) ∗ StableHlo.held (c.tc : Thread nD τ) heldY (V₁ m c) ∗ Xk m c)
    ⊢ (pdats m 0 c).Φ 0 := by
  rw [phi_zero, heldY_eq]
  refine BIBase.Entails.trans (sep_mono_left (Entails.of_eq (scopedRest0_eq c))) ?_
  unfold PhiA
  iintro ⟨⟨H0, H1, H2⟩, Hp, ⟨Hx, Hy⟩, HK⟩
  iframe HK Hp H0 H1 H2 Hy
  iexact Hx

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) heldY (V₂ m c) ∗ Pipeline.ownSems0 osem c ∗ Yk c) := by
  rw [phi_last, heldY_eq, V₂_y, V₂_ne m c _ (by decide)]
  refine BIBase.Entails.trans ?_ (sep_mono_left (Entails.of_eq (scopedRest0_eq c).symm))
  unfold PhiZ
  iintro ⟨Hk, Ho, Hx, Hy, ⟨H0, H1, H2⟩, Hp⟩
  iframe H0 H1 H2 Hp Hy Ho Hk
  iexact Hx

theorem owed_cut (c : Dev nD) (t : Fin (cfg0.N + 1)) (g : GSem nD τ sig) (i : Unit) (h : 0 < (dat0 m c).owed t g i) : i ∈ L g ∧ (0 : ℕ) < lv g i := by
  have e : (dat0 m c).owed t = if t.val = 0 then owe0 c else 0 := rfl
  rw [e] at h
  split at h
  · rcases owe0_pos h with ⟨p, rfl⟩ | ⟨p, b, j, rfl⟩
    · exact ⟨Finset.mem_singleton_self _, Nat.one_pos⟩
    · exact ⟨Finset.mem_singleton_self _, by rw [show lv (recvCell p b j) i = 2 from lv_recv p b j]; decide⟩
  · exact absurd h (Nat.lt_irrefl 0)

theorem arr_first (c : Dev nD) (w : Fin 1) : (dat0 m c).arrAt w 0 = V₁ m c (Proc.devRef .tc (Pipeline.arrRef spec0 w)) := rfl
theorem arr_last (c : Dev nD) (w : Fin 1) : (dat0 m c).arrAt w cfg0.N = V₂ m c (Proc.devRef .tc (Pipeline.arrRef spec0 w)) := by
  obtain rfl := Subsingleton.elim w 0
  rw [(dat0 m c).arrAt_in 0 rfl]
  exact (V₂_ne m c _ (by decide)).symm

theorem share_full (c : Dev nD) (w : Fin 1) : (dat0 m c).share w = fullShare := by unfold Dat.share; split <;> rfl

theorem rest_same (c : Dev nD) (b : DevRef τ sig) (hb : b ∈ heldR \ heldY) : V₂ m c b = V₁ m c b :=
  V₂_ne m c b (by rintro rfl; exact absurd hb (by decide))

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem ownFacts
    heldY heldR (by decide) launch0.toP rfl (fun c => (body_obligation m c).loose)
    (fun _ => 0) owe0 (fun c => (owed_zero m c).trans (zero_add _).symm) (owed_last m) (fun _ => rfl) (share_full m)
    (V₁ m) (V₂ m) (rest_same m)
    (Tk m) Yk (Xk m) Yk (hopen m) (hin m) (hout m)
    (fun c => by iintro H; imodintro; iexact H)
    (fun _ => 0)
    ⟨fun _ w s => Finset.mem_singleton_self _, fun c w s => by obtain rfl := Subsingleton.elim w (0 : Fin 1); exact Nat.le_of_eq rfl, fun c t g i h => owed_cut m c t g i h⟩
    (fun _ => iprop(emp))
    (arr_first m) (arr_last m)

end Cert.KernelIdealProof

end
-- ==== Proof.Run.lean ====
/-
  The run of the whole program on all devices, over any float values: the launch deals every cell's invariant, the
  tokens of the duties each device pays and the credit of what comes to it; the host operation and the kernel's
  region follow; the final state is read off.
-/
module

public import proofs.«01_k».proof.Proof.Region

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

/-! ## The launch credit: what all devices together owe each cell -/

theorem recvCell_inj {p p' : Dev nD} {b b' : Fin 4} {j j' : Dev nD} (h : recvCell p b j = recvCell p' b' j') : p = p' ∧ b = b' ∧ j = j' := by
  have h1 : p = p' := congrArg (fun g : GSem nD τ sig => g.1.1) h
  have h2 : recvS b j = recvS b' j' := SemLoc.dma.inj (congrArg Prod.snd h)
  have h3 := congrArg Fin.val h2
  have hj : j.val < 32 := j.isLt
  have hj' : j'.val < 32 := j'.isLt
  simp only [recvS] at h3
  exact ⟨h1, Fin.ext (by omega), Fin.ext (by omega)⟩

theorem recvCell_ne_bar (p p' : Dev nD) (b : Fin 4) (j : Dev nD) : recvCell p b j ≠ barCell p' := fun h => by
  have := congrArg Prod.snd h; cases this

/-- One trip in 31 addresses a given other device. -/
theorem sum_peer (d c : Dev nD) (n : ℕ) : (∑ t : Fin 31, if peer d t = c then n else 0) = if d = c then 0 else n := by
  by_cases h : d = c
  · subst h
    rw [if_pos rfl]
    exact Finset.sum_eq_zero fun t _ => if_neg (peer_ne d t)
  · rw [if_neg h]
    have hc : c ∈ (Finset.univ.map ⟨peer d, peer_injective d⟩ : Finset (Dev nD)) := by
      rw [← others_eq]; exact Finset.mem_filter.mpr ⟨Finset.mem_univ _, fun h' => h h'.symm⟩
    obtain ⟨t₀, -, ht⟩ := Finset.mem_map.mp hc
    have ht : peer d t₀ = c := ht
    rw [Finset.sum_eq_single t₀ (fun t _ hne => if_neg fun h' => hne (peer_injective d (h'.trans ht.symm))) fun h' => absurd (Finset.mem_univ _) h', if_pos ht]

theorem oweBar_at (d c : Dev nD) : oweBar d 0 (barCell c) () = if d = c then 0 else 1 := by
  unfold oweBar
  rw [Ring.rangeSet_univ, Finset.sum_apply, Finsupp.finsetSum_apply, ← sum_peer]
  refine Finset.sum_congr rfl fun t _ => ?_
  rw [tallyAt_apply]
  by_cases h : peer d t = c
  · rw [if_pos ⟨by rw [h], rfl⟩, if_pos h]
  · rw [if_neg fun h' => h (congrArg (fun g : GSem nD τ sig => g.1.1) h'.1).symm, if_neg h]
theorem oweBar_recv (d c : Dev nD) (b : Fin 4) (j : Dev nD) : oweBar d 0 (recvCell c b j) () = 0 := by
  unfold oweBar
  rw [Finset.sum_apply, Finsupp.finsetSum_apply]
  refine Finset.sum_eq_zero fun t _ => ?_
  rw [tallyAt_apply, if_neg fun h' => recvCell_ne_bar _ _ _ _ h'.1]
theorem oweRecv_bar (d c : Dev nD) (b : Fin 4) : oweRecv d b 0 (barCell c) () = 0 := by
  unfold oweRecv
  rw [Finset.sum_apply, Finsupp.finsetSum_apply]
  refine Finset.sum_eq_zero fun t _ => ?_
  rw [tallyAt_apply, if_neg fun h' => recvCell_ne_bar _ _ _ _ h'.1.symm]
theorem oweRecv_at (d c : Dev nD) (b b' : Fin 4) (j : Dev nD) (hj : j ≠ c) :
    oweRecv d b' 0 (recvCell c b j) () = if d = j then (if b' = b then NC else 0) else 0 := by
  unfold oweRecv
  rw [Ring.rangeSet_univ, Finset.sum_apply, Finsupp.finsetSum_apply]
  by_cases h : d = j ∧ b' = b
  · obtain ⟨rfl, rfl⟩ := h
    rw [if_pos rfl, if_pos rfl]
    refine Eq.trans ?_ ((sum_peer d c NC).trans (if_neg hj))
    refine Finset.sum_congr rfl fun t _ => ?_
    rw [tallyAt_apply]
    by_cases h : peer d t = c
    · rw [if_pos ⟨by rw [h], rfl⟩, if_pos h]
    · rw [if_neg fun h' => h (recvCell_inj h'.1).1.symm, if_neg h]
  · rw [Finset.sum_eq_zero fun t _ => by
      rw [tallyAt_apply, if_neg fun h' => h ⟨(recvCell_inj h'.1).2.2.symm, (recvCell_inj h'.1).2.1.symm⟩]]
    by_cases hd : d = j
    · rw [if_pos hd, if_neg fun hb => h ⟨hd, hb⟩]
    · rw [if_neg hd]

theorem owe0_apply (d : Dev nD) (g : GSem nD τ sig) :
    owe0 d g () = oweRecv d 3 0 g () + oweRecv d 2 0 g () + oweRecv d 1 0 g () + oweRecv d 0 0 g () + oweBar d 0 g () := rfl

theorem owe0_bar (d c : Dev nD) : owe0 d (barCell c) () = if d = c then 0 else 1 := by
  rw [owe0_apply, oweRecv_bar, oweRecv_bar, oweRecv_bar, oweRecv_bar, oweBar_at, Nat.zero_add]
theorem owe0_recv (d c : Dev nD) (b : Fin 4) (j : Dev nD) (hj : j ≠ c) : owe0 d (recvCell c b j) () = if d = j then NC else 0 := by
  rw [owe0_apply, oweBar_recv, oweRecv_at _ _ _ _ _ hj, oweRecv_at _ _ _ _ _ hj, oweRecv_at _ _ _ _ _ hj, oweRecv_at _ _ _ _ _ hj]
  by_cases h : d = j
  · simp only [if_pos h]
    fin_cases b <;> rfl
  · simp only [if_neg h]

theorem launch_bar (c : Dev nD) :
    tallyOn (barCell c) (launchCredit (Pipeline.owing owe0) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owe0_bar d c]
  rw [Finset.sum_ite, Finset.sum_const_zero, Nat.zero_add, Finset.sum_const, smul_eq_mul, Nat.mul_one]
  rw [others_eq, Finset.card_map, Finset.card_univ, Fintype.card_fin]
theorem launch_recv (c : Dev nD) (b : Fin 4) (t : Fin 31) :
    tallyOn (recvCell c b (peer c t)) (launchCredit (Pipeline.owing owe0) 0 (recvCell c b (peer c t)))
      = (tallyAt (recvCell c b (peer c t)) () NC : CellTallies nD τ sig Unit) := by
  unfold tallyAt; refine congrArg _ (Finsupp.ext fun u => ?_); cases u
  rw [Pipeline.launchCredit_owing, Finsupp.single_eq_same, Finset.sum_congr rfl fun d _ => owe0_recv d c b _ (peer_ne c t),
    Finset.sum_ite_eq' Finset.univ (peer c t) fun _ => NC, if_pos (Finset.mem_univ _)]

noncomputable def arrEmb (c : Dev nD) : Fin 4 × Fin 31 ↪ SemLoc sig :=
  ⟨fun p => .dma (recvS p.1 (peer c p.2)), fun p p' h => by
    obtain ⟨-, h1, h2⟩ := recvCell_inj (p := c) (p' := c) (congrArg (fun sm => ((c : Thread nD τ), sm)) h)
    exact Prod.ext h1 (peer_injective c h2)⟩

omit [FloatOps F] in
theorem creds (c : Dev nD) : (Pipeline.launchCred owe0 c : sProp 𝕄) ⊢ Creds c := by
  unfold Pipeline.launchCred Creds
  rw [bigSep_univ_at _ (SemLoc.reg barS), launch_bar]
  refine sep_mono_right ?_
  refine BIBase.Entails.trans (bigSep_subset (t := Finset.univ.map (arrEmb c)) fun x hx => ?_) (Entails.of_eq ?_)
  · obtain ⟨p, -, rfl⟩ := Finset.mem_map.mp hx
    exact Finset.mem_erase.mpr ⟨fun h => (by cases h), Finset.mem_univ _⟩
  · rw [bigSep_map, bigSep_univ_prod]
    refine bigSep_congr fun b _ => ?_
    rw [Ring.rangeSet_univ]
    exact bigSep_congr fun t _ => congrArg cred (launch_recv c b t)

/-! ## The cells and the tokens of the launch -/

noncomputable def barEmb : Dev nD ↪ GSem nD τ sig := ⟨fun c => barCell c, fun _ _ h => congrArg (fun g : GSem nD τ sig => g.1.1) h⟩
noncomputable def ownEmb : Dev nD × Fin 264 ↪ GSem nD τ sig :=
  ⟨fun ck => kcell (ck.1, ck.2.succ), fun p p' h => by
    have h : kcell (p.1, p.2.succ) = kcell (p'.1, p'.2.succ) := h
    rw [kcell_succ, kcell_succ] at h
    exact Prod.ext (congrArg (fun g : GSem nD τ sig => g.1.1) h) (ownFacts.inj (congrArg Prod.snd h))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  have h : kcell (ck.1, ck.2.succ) = barCell c := h
  rw [kcell_succ] at h
  have := congrArg Prod.snd h; cases this

theorem kcell_mem (ck : Dev nD × Fin 265) : kcell ck ∈ (barCells ∪ ownCells : Finset (GSem nD τ sig)) := by
  obtain ⟨c, k⟩ := ck
  rcases Fin.eq_zero_or_eq_succ k with rfl | ⟨k, rfl⟩
  · exact Finset.mem_union_left _ (Finset.mem_map_of_mem barEmb (Finset.mem_univ c))
  · exact Finset.mem_union_right _ (Finset.mem_map_of_mem ownEmb (Finset.mem_univ (c, k)))

/-- The duties a device pays: its 31 signals; each row block's copy in and copy out; and each row block's 31 sends, with
    the arrivals they make. -/
abbrev Duty : Type := Fin 31 ⊕ (Fin 4 × (Unit ⊕ (Unit ⊕ (Fin 31 × Bool))))

noncomputable def dutyOf (c : Dev nD) : Duty → GSem nD τ sig × ℕ × Dev nD
  | .inl t => (barCell (peer c t), 0, c)
  | .inr (b, .inl _) => (inCell c b, 0, 0)
  | .inr (b, .inr (.inl _)) => (outCell c b, 0, 0)
  | .inr (b, .inr (.inr (t, false))) => (sendCell c b t, 0, 0)
  | .inr (b, .inr (.inr (t, true))) => (recvCell (peer c t) b c, 0, 0)

/-- The device and the semaphore's number that a duty is due at; a signal's number is 0. -/
noncomputable def dueNum (g : GSem nD τ sig) : ℕ := match g.2 with
  | .reg _ => 0
  | .dma k => k.val

theorem duty_injective : Function.Injective (fun p : Dev nD × Duty => dutyOf p.1 p.2) := by
  rintro ⟨c, i⟩ ⟨c', i'⟩ h
  have hn := congrArg (fun x : GSem nD τ sig × ℕ × Dev nD => dueNum x.1) h
  have hd := congrArg (fun x : GSem nD τ sig × ℕ × Dev nD => x.1.1.1) h
  have hp := congrArg (fun x : GSem nD τ sig × ℕ × Dev nD => x.2.2) h
  have hc : c.val < 32 := c.isLt
  have hc' : c'.val < 32 := c'.isLt
  rcases i with t | ⟨b, _ | _ | ⟨t, _ | _⟩⟩ <;> rcases i' with t' | ⟨b', _ | _ | ⟨t', _ | _⟩⟩ <;>
    simp only [dutyOf, dueNum, inS, outS, sendS, recvS] at hn hd hp <;>
    first
    | (exfalso; have := b.isLt; have := b'.isLt; have := t.isLt; have := t'.isLt; omega)
    | (exfalso; have := b.isLt; have := b'.isLt; have := t.isLt; omega)
    | (exfalso; have := b.isLt; have := b'.isLt; have := t'.isLt; omega)
    | (exfalso; have := b.isLt; have := b'.isLt; omega)
    | (exfalso; have := b.isLt; have := t.isLt; omega)
    | (exfalso; have := b'.isLt; have := t'.isLt; omega)
    | (exfalso; have := b.isLt; omega)
    | (exfalso; have := b'.isLt; omega)
    | (subst hp; obtain rfl := peer_injective c hd; rfl)
    | (subst hd; obtain rfl : b = b' := Fin.ext (by omega); rfl)
    | (subst hd; have := t.isLt; have := t'.isLt; obtain rfl : b = b' := Fin.ext (by omega); obtain rfl : t = t' := Fin.ext (by omega); rfl)
    | (obtain rfl : b = b' := Fin.ext (by omega); obtain rfl : c = c' := Fin.ext (by omega); obtain rfl := peer_injective c hd; rfl)

noncomputable def duties : Finset (GSem nD τ sig × ℕ × Dev nD) := Finset.univ.map ⟨fun p : Dev nD × Duty => dutyOf p.1 p.2, duty_injective⟩

omit [FloatOps F] in
theorem duties_eq : bigSep duties (fun x => (dutyTok ER x.1 x.2.1 x.2.2 : sProp 𝕄)) = bigSep Finset.univ fun c : Dev nD => Toks c := by
  unfold duties
  rw [bigSep_map, bigSep_univ_prod]
  refine bigSep_congr fun c _ => ?_
  unfold Toks SdT
  rw [bigSep_univ_sum, bigSep_univ_prod, Ring.rangeSet_univ]
  refine congrArg₂ _ rfl (bigSep_congr fun b _ => ?_)
  rw [bigSep_univ_sum, bigSep_univ_sum, bigSep_univ_prod]
  refine congrArg₂ _ ?_ (congrArg₂ _ ?_ (bigSep_congr fun t _ => ?_))
  · rw [show (Finset.univ : Finset Unit) = {()} from rfl, bigSep_singleton]; rfl
  · rw [show (Finset.univ : Finset Unit) = {()} from rfl, bigSep_singleton]; rfl
  · rw [bigSep_eq_bigSepL_of_eq [false, true] (by decide) (by decide)]; rfl

/-! ## The launch -/

variable (m : (ℓ : Loc nD τ sig) → Buf (Elt F) ℓ) (ρ : Dev nD → PrngReg)

/-- The launch's ghost element: the pipeline's own beside the exchange's. -/
noncomputable def u₀ : UU :=
  (initOf (Pipeline.cells (Pipeline.pin (pcfgs (F := F)) adm) cellOf_inj) (Pipeline.launchToks (Pipeline.pin (pcfgs (F := F)) adm) cellOf_inj),
    launchOf barCells ownCells duties)

/-- A resource kept whole at device 0 until the devices' shares are dealt. -/
def onDev (Y : sProp 𝕄) (c : Dev nD) : sProp 𝕄 := if c = 0 then Y else iprop(emp)
omit [FloatOps F] in
theorem bigSep_onDev (Y : sProp 𝕄) : bigSep Finset.univ (onDev Y) = Y := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def Gho : Dev nD → sProp 𝕄 := onDev (BI.own (ER (launchOf barCells ownCells duties)))

/-- What every device may consult. -/
def Known (κ : GSem nD τ sig → ℕ) : sProp 𝕄 :=
  iprop((bigSep Finset.univ fun ck => cellInv ER (sched (XX m) (GG m)) (κ (kcell ck)) (kcell ck)) ∗ bigSep Finset.univ fun p : Dev nD => reached ER (barCell p) 0)
instance Known_persistent (κ : GSem nD τ sig → ℕ) : BI.Persistent (Known m κ) := by unfold Known; infer_instance

theorem known_intro (κ : GSem nD τ sig → ℕ) :
    iprop((bigSep (barCells ∪ ownCells) fun g => cellInv ER (sched (XX m) (GG m)) (κ g) g) ∗ bigSep barCells fun g => reached ER g 0) ⊢ Known m κ := by
  unfold Known
  refine BIClass.sep_mono ?_ (Entails.of_eq (bigSep_map (s := Finset.univ) barEmb (Φ := fun g : GSem nD τ sig => (reached ER g 0 : sProp 𝕄))))
  have hinj : Function.Injective (kcell : Dev nD × Fin 265 → GSem nD τ sig) := by
    rintro ⟨c, k⟩ ⟨c', k'⟩ h
    have hc : c = c' := congrArg (fun g : GSem nD τ sig => g.1.1) h
    have hk : csem k = csem k' := congrArg Prod.snd h
    subst hc
    rcases Fin.eq_zero_or_eq_succ k with rfl | ⟨k, rfl⟩ <;> rcases Fin.eq_zero_or_eq_succ k' with rfl | ⟨k', rfl⟩
    · rfl
    · cases hk
    · cases hk
    · rw [kcell_succ, kcell_succ] at h
      rw [ownFacts.inj (congrArg Prod.snd h)]
  exact BIBase.Entails.trans (bigSep_subset (t := Finset.univ.map ⟨kcell, hinj⟩) fun g hg => by
    obtain ⟨ck, -, rfl⟩ := Finset.mem_map.mp hg; exact kcell_mem ck)
    (Entails.of_eq (bigSep_map (s := Finset.univ) ⟨kcell, hinj⟩ (Φ := fun g : GSem nD τ sig => (cellInv ER (sched (XX m) (GG m)) (κ g) g : sProp 𝕄))))

/-- What stays with a device. -/
def Own (c : Dev nD) : sProp 𝕄 :=
  iprop(atPos ER (barCell c) 0 ∅ 0 ∗ (bigSep Finset.univ fun k : Fin 264 => openTok ER (kcell (c, k.succ))) ∗ Toks c)

theorem dorm_intro (κ : GSem nD τ sig → ℕ) (c : Dev nD) : iprop(Known m κ ∗ Own c) ⊢ iprop(∃ K, Dorm m K c) := by
  unfold Known Own Dorm
  iintro ⟨H, H1, H2, H3⟩
  iexists fun ck => κ (kcell ck)
  iframe H H1 H2 H3

/-! ## The two segments -/

noncomputable def bufs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq : bufs = Pipeline.arrRefs (τ := τ) spec0 ∪ heldR := by decide
theorem bufs_disj : Disjoint (Pipeline.arrRefs (τ := τ) spec0) heldR := by decide

omit [FloatOps F] in
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) heldR W) := by
  unfold StableHlo.held
  rw [bufs_eq, bigSep_union bufs_disj]
  rfl

omit [FloatOps F] in
theorem heldR_eq (c : Dev nD) (W : Valuation τ sig (Elt F)) : (StableHlo.held (c : Thread nD τ) heldR W : sProp 𝕄)
    = iprop((((c : Thread nD τ).loc main_arg0) ↦{fullShare} (W (Proc.devRef .tc main_arg0))) ∗ (((c : Thread nD τ).loc main_v2) ↦{fullShare} (W (Proc.devRef .tc main_v2)))
      ∗ (((c : Thread nD τ).loc main_arg1) ↦{fullShare} (W (Proc.devRef .tc main_arg1)))) := by
  unfold StableHlo.held
  rw [bigSep_eq_bigSepL_of_eq [Proc.devRef .tc main_arg0, Proc.devRef .tc main_v2, Proc.devRef .tc main_arg1] (by decide) (by decide)]
  rfl

/-- What rides beside the buffers through the host operation. -/
def Rides (c : Dev nD) : sProp 𝕄 := iprop(Tk m c ∗ (∃ r, prngReg c r) ∗ Owe c (owe0 c))

local notation "ℍ" => Pipeline.HostSeg (Name := ℕ) (U := UU) (pcfgs (F := F)) defs₀ 𝒱₀ L lv

theorem host_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem host_fresh : ∀ op ∈ (hostOps0 : List (HloOp τ sig (Elt F))), op.fresh = ∅ :=
  List.forall_iff_forall_mem.mp hostOps0_fresh

noncomputable def seg0 : ℍ := Pipeline.HostSeg.ofOps _ _ _ _ _ bufs hostOps0 host_sub host_fresh (V₀ m) (Rides m)

theorem reg0_pre (c : Dev nD) : iprop(StableHlo.held (c : Thread nD τ) bufs (V₁ m c) ∗ Rides m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) heldR (V₁ m c) ∗ emp) ∗ Tk m c ∗ ∃ Wd, owes (c : Thread nD τ) (0 + owe0 c) Wd)
  rw [bufs_split, zero_add]
  unfold Rides
  iintro ⟨⟨Ha, Hh⟩, HT, Hp, HO⟩
  iframe Ha Hh HT Hp HO

abbrev T₀ (c : Dev nD) : sProp 𝕄 := iprop(StableHlo.held (c : Thread nD τ) bufs (V₀ m c) ∗ Rides m c)
abbrev Tₙ (c : Dev nD) : sProp 𝕄 := iprop(StableHlo.held (c : Thread nD τ) heldR (V₂ m c) ∗ semVal (barCell c) 0)

theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) heldR (V₂ m c) ∗ emp) ∗ Yk c ∗ ∃ Wd, owes (c : Thread nD τ) (0 : CellTallies nD τ sig Unit) Wd) ⊢ _
  unfold Yk
  iintro ⟨-, -, ⟨Hh, -⟩, Hb, HO⟩
  iframe Hh Hb HO

noncomputable def segs : List (Pipeline.Seg (pcfgs (F := F)) adm (pdats m) () defs₀ 𝒱₀ L lv) := [.host (seg0 m), .region (reg0 m)]

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

/-- A device's holdings at launch, the exchange's share apart. -/
def Bundle (c : Dev nD) : sProp 𝕄 :=
  iprop(StableHlo.held (c : Thread nD τ) bufs (V₀ m c) ∗ Creds c ∗ Owe c (owe0 c) ∗ ∃ r, prngReg c r)

theorem T₀_intro (κ : GSem nD τ sig → ℕ) (c : Dev nD) : iprop(Known m κ ∗ (Own c ∗ Bundle m c)) ⊢ T₀ m c := by
  unfold Bundle T₀ Rides Tk
  iintro ⟨HR, Hl, Hh, HC, HO, Hp⟩
  iframe Hh HO Hp HC
  iapply (dorm_intro m κ c)
  iframe HR Hl

omit [FloatOps F] in
theorem devs_pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
omit [FloatOps F] in
theorem devs_unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
omit [FloatOps F] in
theorem devs_mono {Φ Ψ : Dev nD → sProp 𝕄} (h : ∀ c, Φ c ⊢ Ψ c) : bigSep Finset.univ Φ ⊢ bigSep Finset.univ Ψ := bigSep_mono fun c _ => h c

theorem start_core (c : Dev nD) : iprop(unscopedBufs c (fun b => m ((c : Thread nD τ).loc b)) ∗ unscopedSems0 c
      ∗ owes (c : Thread nD τ) (owe0 c) ∅ ∗ Pipeline.launchCred owe0 c ∗ prngReg c (ρ c) ∗ Gho c)
    ⊢ (iprop(Bundle m c ∗ (semVal (barCell c) 0 ∗ Gho c)) : sProp 𝕄) := by
  rw [show unscopedBufs c (fun b => m ((c : Thread nD τ).loc b)) = StableHlo.held (c : Thread nD τ) bufs (V₀ m c) from unscopedBufs_held c (V₀ m c),
    unscopedSems_eq]
  unfold Bundle
  iintro ⟨Hh, Hus, HO, Hcr, Hp, HG⟩
  ihave Hc := (creds (F := F) c) $$ Hcr
  iframe Hh Hc Hus HG
  isplitl [HO]
  · iexists ∅; iexact HO
  · iexists (ρ c); iexact Hp

omit [FloatOps F] in
theorem bar_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
omit [FloatOps F] in
theorem bar_ats : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
omit [FloatOps F] in
theorem own_opens : bigSep ownCells (fun g => (openTok ER g : sProp 𝕄))
    ⊢ bigSep Finset.univ (fun c : Dev nD => bigSep Finset.univ fun k : Fin 264 => openTok ER (kcell (c, k.succ))) :=
  Entails.of_eq ((bigSep_map (s := Finset.univ) ownEmb (Φ := fun g : GSem nD τ sig => (openTok ER g : sProp 𝕄))).trans
    (bigSep_univ_prod (Φ := fun ck : Dev nD × Fin 264 => (openTok ER (kcell (ck.1, ck.2.succ)) : sProp 𝕄))))
omit [FloatOps F] in
theorem gho_whole : bigSep Finset.univ (Gho (F := F)) ⊢ BI.own (ER (launchOf barCells ownCells duties)) :=
  Entails.of_eq (bigSep_onDev (F := F) _)

/-- The cells opened: every device's share of what is known, its positions and tokens. -/
theorem deal : iprop(bigSep Finset.univ (fun c : Dev nD => (semVal (barCell c) 0 : sProp 𝕄)) ∗ bigSep Finset.univ (Gho (F := F)))
    ⊢ (|={Set.univ}=> ∃ κ, □ Known m κ ∗ bigSep Finset.univ Own : sProp 𝕄) := by
  iintro ⟨Hv, HG⟩
  ihave Hu := (gho_whole (F := F)) $$ HG
  ihave Hv := (bar_vals (F := F)) $$ Hv
  imod (Rounds.fund_launch ER (sched (XX m) (GG m)) disjoint_cells (fun g _ h => h) duties) $$ [Hv Hu] with ⟨%κ, -, #Hinv, #Hr, Hat, Hopen, Htok⟩
  · isplitl [Hv]
    · iexact Hv
    · iexact Hu
  imodintro
  iexists κ
  isplitr
  · imodintro
    iapply (known_intro m κ)
    isplitr; · iexact Hinv
    iexact Hr
  unfold Own
  iapply devs_pair; isplitl [Hat]; · iapply (bar_ats (F := F)) $$ Hat
  iapply devs_pair; isplitl [Hopen]; · iapply (own_opens (F := F)) $$ Hopen
  iapply (Entails.of_eq (duties_eq (F := F))) $$ Htok

theorem init :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ Gho c)) ∗ levAts L lv)
      ⊢ (|={Set.univ}=> bigSep Finset.univ (T₀ m) : sProp 𝕄) := by
  iintro ⟨H, -⟩
  ihave H' := (devs_mono (start_core m ρ)) $$ H
  ihave H2 := devs_unpair $$ H'; icases H2 with ⟨HB, H3⟩
  ihave H4 := devs_unpair $$ H3; icases H4 with ⟨Hv, HG⟩
  imod (deal m) $$ [Hv HG] with ⟨%κ, #HK, HOwn⟩
  · iframe Hv HG
  imodintro
  iapply (bigSep_with_persistent (R := Known m κ) (Φ := fun c => iprop(Own c ∗ Bundle m c)) fun c _ => T₀_intro m κ c)
  isplitr
  · iexact HK
  iapply devs_pair
  isplitr [HB]
  · iexact HOwn
  · iexact HB

theorem V₁_of_ne (c : Dev nD) (b : Ref sig .tc) (h : b ≠ main_v1) : V₁ m c (Proc.devRef .tc b) = m ((c : Dev nD), Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

set_option backward.isDefEq.respectTransparency.types false in
/-- From any memory with zero counters, every weakly fair execution terminates, and every final state has the two
    arguments unchanged, the result array at the computed contents on each device, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = yF (XX m) (GG m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := owe0) (hL := L_of_ne) (G := Gho) (u₀ := u₀ (F := F))
    (hu₀ := by
      unfold u₀ Gho
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
      ∧ s.mem ((c : Thread nD τ).loc main_v2) = V₂ m c (Proc.devRef .tc main_v2)
      ∧ s.mem ((c : Thread nD τ).loc main_arg1) = V₂ m c (Proc.devRef .tc main_arg1)) ∧ s.sem (barCell c) = 0)
    (hfin := fun c s' => by
      dsimp only [Tₙ]; rw [heldR_eq]
      iintro ⟨⟨⟨Hx, Hy, Hg⟩, Hb0⟩, HSI⟩
      icombine HSI Hx gives %hx
      icombine HSI Hy gives %hy
      icombine HSI Hg gives %hg
      icombine HSI Hb0 gives %hb
      imodintro
      isplitr
      · ipureintro
        exact ⟨⟨Buf.eq_of_forall_mem_univ hx, Buf.eq_of_forall_mem_univ hy, Buf.eq_of_forall_mem_univ hg⟩, by simpa using hb⟩
      iexact HSI)
    (hQ := fun s h hs => ⟨fun c => by
        obtain ⟨⟨hx, hy, hg⟩, -⟩ := h c
        rw [V₂_ne m c _ (by decide), V₁_of_ne m c _ (by decide)] at hx hg
        rw [V₂_y] at hy
        exact ⟨hx, hg, hy⟩,
      sem_eq_zero hs fun c sm hsm => by
        obtain rfl := unscoped_eq sm hsm
        exact (h c).2⟩)

end Cert.KernelIdealProof

end
-- ==== Proof.Blocks.lean ====
/-
  The kernel's blocks read at an index.
-/
module

public import proofs.«01_k».proof.Proof.Protocol
public import Idealize.ShloMosaic.Lib.Pointwise
public import Idealize.ShloMosaic.Lib.IdealHost

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two 0/1 matrices -/

/-- Row `r` belongs to the group of 128 rows number `r / 128`. -/
theorem sel_apply (r : Fin 512) (q : Fin 4) : (k0_pay1 : FVec F S512x4 .f32) (ix2 r q) = FloatOps.sitofp .f32 (if r.val / 128 = q.val then 1#32 else 0#32) := by
  refine congrArg (FloatOps.sitofp .f32) (?_ : _ = if r.val / 128 = q.val then 1#32 else 0#32)
  revert r q
  decide +kernel

/-- The remainder the mask compares the lane with, -/
theorem lane_word (r : Fin 512) (l : Fin 128) : select k0_pay3 k0_pay4 k0_pay2 (ix2 r l) = BitVec.ofNat 32 (r.val % 128) := by
  change select k0_pay3 k0_pay4 k0_pay2 (ix2 r (0 : Fin 128)) = _
  revert r
  decide +kernel

/-- and the mask: row `r` sits in lane `r % 128`. -/
theorem mask_apply (r : Fin 512) (l : Fin 128) : (maskV : FVec F S512x128 .f32) (ix2 r l) = FloatOps.sitofp .f32 (if r.val % 128 = l.val then 1#32 else 0#32) := by
  refine congrArg (FloatOps.sitofp .f32) (?_ : _ = if r.val % 128 = l.val then 1#32 else 0#32)
  show BitVec.setWidth 32 (IntOp.cmpi .eq (iota .tc S512x128 32 [1] iota_S512x128_d1_w32 (ix2 r l)) (select k0_pay3 k0_pay4 k0_pay2 (ix2 r l))) = _
  rw [lane_word]
  have e : (iota .tc S512x128 32 [1] iota_S512x128_d1_w32 (ix2 r l)) = BitVec.ofNat 32 l.val := by
    show BitVec.ofNat 32 (0 * 128 + l.val) = _
    rw [Nat.zero_mul, Nat.zero_add]
  rw [e]
  generalize hk : r.val % 128 = k
  have h2 : k < 128 := hk ▸ Nat.mod_lt _ (by decide)
  obtain ⟨k, rfl⟩ : ∃ k' : Fin 128, k'.val = k := ⟨⟨k, h2⟩, rfl⟩
  clear hk h2 e
  revert k l
  decide +kernel

/-! ## One form for the four row blocks -/

section Blocks

variable (X : Dev nD → (main_arg0 : Ref sig .tc).ty.Contents (Elt F)) (G : Dev nD → (cc0_stg0_0 : Ref sig .tc).ty.Contents (Elt F))

theorem part_eq (c : Dev nD) (b : Fin 4) : part X c b = k0_pay8 (xblk X c b) := by
  fin_cases b <;> rfl
theorem oblk_eq (c : Dev nD) (b : Fin 4) : oblk X G c b = k0_pay17 k0_pay1 maskV (k0_pay6 (gld G c)) (tot X b) (xblk X c b) := by
  fin_cases b <;> rfl

/-- The row of `x` that is row `r` of block `b`. -/
def row (b : Fin 4) (r : Fin 512) : Fin 2048 := ⟨512 * b.val + r.val, by omega⟩

theorem xblk_apply (c : Dev nD) (b : Fin 4) (u : Fin 1) (r : Fin 512) (k : Fin 1024) : xblk X c b (ix3 u r k) = X c (ix2 (row b r) k) := by
  show xbF X c ((blkR b).emb (ix3 u r k)) = _
  unfold xbF
  congr 1
  funext a; fin_cases a <;> refine Fin.ext ?_
  · show 512 * (b.val + 1 * u.val) + (0 + 1 * r.val) = 512 * b.val + r.val; omega
  · show 0 + 1 * k.val = k.val; omega

theorem tot_apply (b : Fin 4) (u : Fin 1) (j : Dev nD) (q : Fin 4) (l : Fin 128) : tot X b (ix4 u j q l) = part X j b (ix4 (0 : Fin 1) (0 : Fin 1) q l) := by
  show cmF X ((totR b).emb (ix4 u j q l)) = _
  unfold cmF
  have e0 : (totR b).emb (ix4 u j q l) 0 = b := Fin.ext (show b.val + 1 * u.val = b.val by omega)
  have e1 : (totR b).emb (ix4 u j q l) 1 = j := Fin.ext (show 0 + 1 * j.val = j.val by omega)
  have e2 : (ValueIdx.ix4 (n0 := 1) (n1 := 1) (n2 := 4) (n3 := 128) 0 0 ((totR b).emb (ix4 u j q l) 2) ((totR b).emb (ix4 u j q l) 3) : S1x1x4x128.Idx) = ix4 (0 : Fin 1) (0 : Fin 1) q l := by
    funext a; fin_cases a <;> refine Fin.ext ?_
    · rfl
    · rfl
    · show 0 + 1 * q.val = q.val; omega
    · show 0 + 1 * l.val = l.val; omega
  rw [e0, e1, e2]

theorem gld_apply (c : Dev nD) (u : Fin 1) (k : Fin 1024) : gld G c (ix2 u k) = G c (ix2 (0 : Fin 1) k) := by
  show G c ((Rect.unit (s := S1x1024) ![0, 0] S1x1024.size inb_S1x1024_S1x1024_0_0).emb (ix2 u k)) = _
  congr 1
  funext a; fin_cases a <;> refine Fin.ext ?_
  · show 0 + 1 * u.val = 0; omega
  · show 0 + 1 * k.val = k.val; omega

end Blocks

/-! ## The blocks over the extended reals -/

section Real

variable (X : Dev nD → S2048x1024.Idx → EReal) (G : Dev nD → S1x1024.Idx → EReal)

/-- The row group and the lane of a row of a block. -/
def grp (r : Fin 512) : Fin 4 := ⟨r.val / 128, by omega⟩
def lane (r : Fin 512) : Fin 128 := ⟨r.val % 128, by omega⟩

theorem pay8_apply (v : Vec Ideal S1x512x1024 .f32) (u u' : Fin 1) (r : Fin 512) :
    k0_pay8 v (ix4 u u' (grp r) (lane r)) = ∑ k : Fin 1024, v (ix3 (0 : Fin 1) r k) * v (ix3 (0 : Fin 1) r k) := by
  have e : ∀ h, (⟨(grp r).val * 128 + (lane r).val, h⟩ : Fin 512) = r := fun h => Fin.ext (show r.val / 128 * 128 + r.val % 128 = r.val by omega)
  pointwise [k0_pay8, k0_pay7]
  simp only [e]

theorem pay17_apply (s : FVec Ideal S512x4 .f32) (mk : FVec Ideal S512x128 .f32) (g : Vec Ideal S1x1024 .f32) (t : Vec Ideal S1x32x4x128 .f32)
    (v : Vec Ideal S1x512x1024 .f32) (u : Fin 1) (r : Fin 512) (k : Fin 1024) :
    k0_pay17 s mk (k0_pay6 g) t v (ix3 u r k)
      = v (ix3 (0 : Fin 1) r k) * ∑ l : Fin 128, ((∑ q : Fin 4, s (ix2 r q)
          * Ideal.rsqrt ((∑ j : Fin 32, t (ix4 (0 : Fin 1) j q l)) * Ideal.ofBits .f32 0x38000000#32 + Ideal.ofBits .f32 0x3727C5AC#32)) * mk (ix2 r l)) * g (ix2 (0 : Fin 1) k) := by
  pointwise [k0_pay17, k0_pay6]

/-- A truth value as a number. -/
theorem one_hot (p : Prop) [Decidable p] : (FloatOps.sitofp .f32 (if p then 1#32 else 0#32) : Ideal .f32) = if p then (1 : EReal) else 0 := by
  split
  · show (((1#32 : BitVec 32).toInt : ℝ) : EReal) = 1
    simp
  · show (((0#32 : BitVec 32).toInt : ℝ) : EReal) = 0
    simp

/-- The sum of the squares of a row of `x`, over all devices. -/
def sumsq (i : Fin 2048) : EReal := ∑ j : Fin 32, ∑ k : Fin 1024, X j (ix2 i k) * X j (ix2 i k)

theorem tot_sum (b : Fin 4) (r : Fin 512) : (∑ j : Fin 32, (tot (F := Ideal) X b (ix4 (0 : Fin 1) j (grp r) (lane r)) : EReal)) = sumsq X (row b r) := by
  refine Finset.sum_congr rfl fun j _ => ?_
  rw [tot_apply, part_eq, pay8_apply]
  refine Finset.sum_congr rfl fun k _ => ?_
  rw [xblk_apply]

/-- A row block of the result: the row of `x`, times what the row's inverse root and the scale come to. -/
theorem oblk_apply (c : Dev nD) (b : Fin 4) (r : Fin 512) (k : Fin 1024) :
    (oblk (F := Ideal) X G c b (ix3 (0 : Fin 1) r k) : EReal)
      = X c (ix2 (row b r) k) * (Ideal.rsqrt (sumsq X (row b r) * Ideal.ofBits .f32 0x38000000#32 + Ideal.ofBits .f32 0x3727C5AC#32) * G c (ix2 (0 : Fin 1) k)) := by
  rw [oblk_eq, pay17_apply, xblk_apply, gld_apply]
  refine congrArg (X c (ix2 (row b r) k) * ·) ?_
  rw [Finset.sum_eq_single (lane r) (fun l _ hl => ?_) (fun h => absurd (Finset.mem_univ _) h), Finset.sum_eq_single (grp r) (fun q _ hq => ?_) (fun h => absurd (Finset.mem_univ _) h),
    tot_sum, sel_apply, mask_apply, one_hot, one_hot, if_pos (show r.val / 128 = (grp r).val from rfl), if_pos (show r.val % 128 = (lane r).val from rfl), one_mul, mul_one]
  · rw [sel_apply, one_hot, if_neg (fun e => hq (Fin.ext e.symm)), zero_mul]
  · rw [mask_apply, one_hot, if_neg (fun e => hl (Fin.ext e.symm)), mul_zero, zero_mul]

/-- The result at an index. -/
theorem yF_apply (c : Dev nD) (i : Fin 2048) (k : Fin 1024) :
    (yF (F := Ideal) X G c (ix2 i k) : EReal)
      = X c (ix2 i k) * (Ideal.rsqrt (sumsq X i * Ideal.ofBits .f32 0x38000000#32 + Ideal.ofBits .f32 0x3727C5AC#32) * G c (ix2 (0 : Fin 1) k)) := by
  have hr : row ⟨i.val / 512, by omega⟩ ⟨i.val % 512, Nat.mod_lt _ (by decide)⟩ = i := Fin.ext (show 512 * (i.val / 512) + i.val % 512 = i.val by omega)
  have h := oblk_apply X G c ⟨i.val / 512, by omega⟩ ⟨i.val % 512, Nat.mod_lt _ (by decide)⟩ k
  rw [hr, ix3_eq_valueIdx] at h
  exact h

end Real

/-! ## The arithmetic -/

theorem w_inv : Ideal.ofBits .f32 0x38000000#32 = ((1 / 32768 : ℝ) : EReal) := by
  simp [Ideal.ofBits, Ideal.ieee, -EReal.coe_mul]; norm_num
theorem w_len : Ideal.ofBits .f32 0x47000000#32 = ((32768 : ℝ) : EReal) := by
  simp [Ideal.ofBits, Ideal.ieee, -EReal.coe_mul]; norm_num
theorem w_eps : Ideal.ofBits .f32 0x3727C5AC#32 = ((10995116 / 2 ^ 40 : ℝ) : EReal) := by
  simp [Ideal.ofBits, Ideal.ieee, -EReal.coe_mul]; norm_num

theorem sq_nonneg_ereal (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- Scaling by the inverse root of the mean square is dividing by its root, whatever the numbers are. -/
theorem norm_eq (S x g : EReal) (h : 0 ≤ S) :
    x * (Ideal.rsqrt (S * Ideal.ofBits .f32 0x38000000#32 + Ideal.ofBits .f32 0x3727C5AC#32) * g)
      = Ideal.div (g * x) (Ideal.sqrt (Ideal.div S (Ideal.ofBits .f32 0x47000000#32) + Ideal.ofBits .f32 0x3727C5AC#32)) := by
  have h1 : Ideal.div S (Ideal.ofBits .f32 0x47000000#32) = S * Ideal.ofBits .f32 0x38000000#32 := by
    rw [w_len, w_inv, Ideal.div_coe (by norm_num)]
  rw [h1, w_inv, w_eps]
  induction S with
  | bot => exact absurd h (by simp)
  | top =>
    have e : (⊤ : EReal) * ((1 / 32768 : ℝ) : EReal) + ((10995116 / 2 ^ 40 : ℝ) : EReal) = ⊤ := by
      rw [EReal.top_mul_coe_of_pos (by norm_num), EReal.top_add_coe]
    rw [e]
    show x * (0 * g) = Ideal.div (g * x) ⊤
    rw [zero_mul, mul_zero, Ideal.div, if_neg (by simp), EReal.inv_top, mul_zero]
  | coe s =>
    have hs : 0 ≤ s := EReal.coe_nonneg.mp h
    rw [← EReal.coe_mul, ← EReal.coe_add]
    generalize hr : s * (1 / 32768) + 10995116 / 2 ^ 40 = r
    have hp : 0 < r := by rw [← hr]; positivity
    have e1 : Ideal.rsqrt (r : EReal) = ((Real.sqrt r)⁻¹ : ℝ) := by
      show (if r < 0 then ⊥ else if r = 0 then ⊤ else (((Real.sqrt r)⁻¹ : ℝ) : EReal)) = _
      rw [if_neg hp.le.not_gt, if_neg hp.ne']
    have e2 : Ideal.sqrt (r : EReal) = (Real.sqrt r : ℝ) := by
      show (if r < 0 then ⊥ else ((Real.sqrt r : ℝ) : EReal)) = _
      rw [if_neg hp.le.not_gt]
    rw [e1, e2, Ideal.div_coe (Real.sqrt_pos.mpr hp).ne', one_div, mul_comm g x, mul_assoc, mul_comm g]

end Cert.KernelIdealProof

end
-- ==== Proof.Value.lean ====
/-
  The result over the extended reals: each device's block of columns of the reference's.
-/
module

public import proofs.«01_k».proof.Proof.Run
public import proofs.«01_k».proof.Proof.Blocks
public import proofs.«01_k».proof.Proof.Gen.ReferenceIdeal
public import Idealize.ShloMosaic.Lib.Layout
public import Idealize.ShloMosaic.Lib.Pointwise

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the kernel reads, from the arguments -/

section Args

variable (m : (ℓ : Loc nD τ sig) → Buf (Elt F) ℓ)

theorem XX_eq (c : Dev nD) : XX m c = m ((c.tc : Thread nD τ).loc main_arg0) := V₁_of_ne m c _ (by decide)

/-- The scale is reshaped to one row before the kernel is entered, -/
theorem V₁_scale (c : Dev nD) : V₁ m c (Proc.devRef .tc main_v1) = shapeCast S1x1024 (m ((c.tc : Thread nD τ).loc main_arg1)) shapeCasts_S1024_S1x1024 := by
  after_results
  rfl

/-- and the row is staged whole. -/
theorem GG_apply (c : Dev nD) (k : Fin 1024) : GG m c (ix2 (0 : Fin 1) k) = m ((c.tc : Thread nD τ).loc main_arg1) (ix1 k) := by
  have e : GG m c (ix2 (0 : Fin 1) k) = V₁ m c (Proc.devRef .tc main_v1) (ix2 (0 : Fin 1) k) := by
    show V₁ m c (Proc.devRef .tc main_v1) (((cfg0.win 0).blk t0_0).view.emb (ix2 (0 : Fin 1) k)) = _
    congr 1
    funext a; fin_cases a <;> refine Fin.ext ?_
    · show 0 = 0; rfl
    · show 0 + 1 * k.val = k.val; omega
  rw [e, V₁_scale]
  pointwise

end Args

/-! ## The reference at an index -/

/-- What the reference computes from the whole of `x` and of the scale. -/
def refOut (x : FVec Ideal Cert.ReferenceIdeal.S2048x32768 .f32) (g : FVec Ideal Cert.ReferenceIdeal.S32768 .f32) : FVec Ideal Cert.ReferenceIdeal.S2048x32768 .f32 :=
  Host.divf (mulf (broadcastInDim Cert.ReferenceIdeal.S2048x32768 ![0, 1] Cert.ReferenceIdeal.Gen.bcast_S1x32768_S2048x32768_0_1
      (broadcastInDim Cert.ReferenceIdeal.S1x32768 ![1] Cert.ReferenceIdeal.Gen.bcast_S32768_S1x32768_1 g)) x)
    (broadcastInDim Cert.ReferenceIdeal.S2048x32768 ![0, 1] Cert.ReferenceIdeal.Gen.bcast_S2048x1_S2048x32768_0_1
      (Host.sqrt (addf (Host.divf (broadcastInDim Cert.ReferenceIdeal.S2048x1 ![0] Cert.ReferenceIdeal.Gen.bcast_S2048_S2048x1_0
          (Host.reduceAdd (mulf x x) (constant Cert.ReferenceIdeal.S_ .f32 0x00000000#32) Cert.ReferenceIdeal.Gen.reducesTo_S2048x32768_S2048_d1 Cert.ReferenceIdeal.Gen.h_S_))
        (broadcastInDim Cert.ReferenceIdeal.S2048x1 ![] Cert.ReferenceIdeal.Gen.bcast_S_S2048x1 (constant Cert.ReferenceIdeal.S_ .f32 0x47000000#32)))
        (broadcastInDim Cert.ReferenceIdeal.S2048x1 ![] Cert.ReferenceIdeal.Gen.bcast_S_S2048x1 (constant Cert.ReferenceIdeal.S_ .f32 0x3727C5AC#32)))))

theorem refOut_apply (x : FVec Ideal Cert.ReferenceIdeal.S2048x32768 .f32) (g : FVec Ideal Cert.ReferenceIdeal.S32768 .f32) (i : Fin 2048) (K : Fin 32768) :
    refOut x g (ix2 i K) = Ideal.div (g (ix1 K) * x (ix2 i K))
      (Ideal.sqrt (Ideal.div (∑ k : Fin 32768, x (ix2 i k) * x (ix2 i k)) (Ideal.ofBits .f32 0x47000000#32) + Ideal.ofBits .f32 0x3727C5AC#32)) := by
  pointwise [refOut]

/-! ## The two agree -/

section Agree

/-- The column of the whole that is column `k` of device `c`'s block. -/
def col (c : Fin 32) (k : Fin 1024) : Fin 32768 := ⟨c.val * 1024 + k.val, by omega⟩

variable (X : Dev nD → S2048x1024.Idx → EReal) (G : Dev nD → S1x1024.Idx → EReal)
  (x : FVec Ideal Cert.ReferenceIdeal.S2048x32768 .f32) (g : FVec Ideal Cert.ReferenceIdeal.S32768 .f32)

/-- The devices' sums of squares are the whole row's. -/
theorem sumsq_eq (hX : ∀ c i k, X c (ix2 i k) = x (ix2 i (col c k))) (i : Fin 2048) :
    sumsq X i = ∑ k : Fin 32768, x (ix2 i k) * x (ix2 i k) := by
  rw [Fin.sum_univ_tiles 32 1024 rfl]
  refine Finset.sum_congr rfl fun c _ => Finset.sum_congr rfl fun k _ => ?_
  rw [hX]
  rfl

theorem sumsq_nonneg (i : Fin 2048) : 0 ≤ sumsq X i :=
  Finset.sum_nonneg fun j _ => Finset.sum_nonneg fun k _ => sq_nonneg_ereal _

/-- Where each device holds its block of columns, each element it computes is the reference's. -/
theorem yF_eq (hX : ∀ c i k, X c (ix2 i k) = x (ix2 i (col c k))) (hG : ∀ c k, G c (ix2 (0 : Fin 1) k) = g (ix1 (col c k)))
    (c : Dev nD) (i : Fin 2048) (k : Fin 1024) : (yF (F := Ideal) X G c (ix2 i k) : EReal) = refOut x g (ix2 i (col c k)) := by
  rw [yF_apply, refOut_apply, norm_eq _ _ _ (sumsq_nonneg X i), sumsq_eq X x hX, hX, hG]

end Agree

/-- Where the devices hold the blocks of the reference's arguments, each device's result is its block of columns of the
    reference's result. -/
theorem value_eq (m : (ℓ : Loc nD τ sig) → Buf (Elt Ideal) ℓ) (m' : (ℓ : Loc Cert.ReferenceIdeal.nD Cert.ReferenceIdeal.τ Cert.ReferenceIdeal.sig) → Buf (Elt Ideal) ℓ)
    (h : ∀ c : Dev nD,
      m ((c.tc : Thread nD τ).loc main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨1, ![1024]⟩ ⟨1, ![32768]⟩ 0 32 c (m' (((0 : Dev Cert.ReferenceIdeal.nD).tc : Thread Cert.ReferenceIdeal.nD Cert.ReferenceIdeal.τ).loc Cert.ReferenceIdeal.main_arg1)))
    (c : Dev nD) :
    yF (XX m) (GG m) c = Layout.block ⟨2, ![2048, 1024]⟩ ⟨2, ![2048, 32768]⟩ 1 32 c
      (refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))) := by
  funext i
  obtain ⟨a, b, rfl⟩ : ∃ (a : Fin 2048) (b : Fin 1024), i = ix2 a b := ⟨i 0, i 1, eq_ix2 i⟩
  refine (yF_eq (XX m) (GG m) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (fun c i k => ?_) (fun c k => ?_) c a b).trans ?_
  · rw [XX_eq, (h c).1, Layout.block_apply]
    congr 1
    funext d; fin_cases d <;> rfl
  · rw [GG_apply, (h c).2, Layout.block_apply]
    congr 1
    funext d; fin_cases d; rfl
  · rw [Layout.block_apply]
    congr 1
    funext d; fin_cases d <;> rfl

end Cert.KernelIdealProof

end
-- ==== Proof.lean ====
/- The proof of the claims: the run of the kernel's program over any float values gives both of its frames, and over the
   ideal values its result, which is the reference's. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Value

@[expose] public section

set_option maxRecDepth 16384

noncomputable section

namespace Cert.Proof

open Idealize.ShloMosaic Idealize.SL.Sem

/-- The two programs have the same kernel. -/
theorem defs₀_eq {F : FTy → Type} [FloatOps F] : (Cert.Kernel.defs₀ (F := F)) = Cert.KernelIdeal.defs₀ (F := F) := by
  unfold Cert.Kernel.defs₀ Cert.KernelIdeal.defs₀
  refine congrArg (Defs.onTc (nD := 32) (τ := Topo.v7x) (sig := Cert.KernelIdeal.sig) (Val := Elt F) (Λ := Cert.KernelIdeal.Λ₀)) ?_
  funext p x
  match p, x with
  | 0, (t, s) => rfl

theorem defs_eq {F : FTy → Type} [FloatOps F] : (Cert.Kernel.defs (F := F)) = Cert.KernelIdeal.defs (F := F) :=
  congrArg (fun d => Pipeline.defs (Cert.KernelIdeal.pcfgs (F := F)) d) defs₀_eq

/-- The kernel at machine floats: its program is the idealized one's, so the run is the same run. -/
theorem frame_kernel : Cert.quiescent_Kernel := by
  intro m ρ _
  rw [defs_eq]
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun _ h => ⟨fun c => ⟨(h.1 c).1, (h.1 c).2.1⟩, h.2⟩) (Cert.KernelIdealProof.run_main (F := Bits) m ρ)
  exact h

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdealProof.run_main (F := Ideal) m ρ)

/-- The reference's run leaves its arguments; it has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Each device's result is its block of columns of the reference's. -/
theorem algebraic : Cert.algebraic_KernelIdeal_ReferenceIdeal := fun m ρ m' ρ' _ h =>
  ⟨_, (θ_run Cert.KernelIdeal.defs _ _).mono (fun _ hr c => ⟨(hr.1 c).2.2.trans (Cert.KernelIdealProof.value_eq m m' h c), (hr.1 c).1, (hr.1 c).2.1⟩)
    (Cert.KernelIdealProof.run_main (F := Ideal) m ρ),
   (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
